-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantIdeal_gains_finite [hPre_gains_finite : Cert.Pre_gains_finite.Facts] (m : (ℓ : Loc Cert.QuantIdeal.nD Cert.QuantIdeal.τ Cert.QuantIdeal.sig) → Buf (Elt Ideal) ℓ) : Prop :=
  ∀ c : Dev Cert.QuantIdeal.nD,
    (Cert.Pre_gains_finite.fn (F := Ideal) (m ((c.tc : Thread Cert.QuantIdeal.nD Cert.QuantIdeal.τ).loc Cert.QuantIdeal.main_arg0)) (m ((c.tc : Thread Cert.QuantIdeal.nD Cert.QuantIdeal.τ).loc Cert.QuantIdeal.main_arg1))) = (fun _ => 1#1)

def Pre_QuantRefIdeal (m : (ℓ : Loc Cert.QuantRefIdeal.nD Cert.QuantRefIdeal.τ Cert.QuantRefIdeal.sig) → Buf (Elt Ideal) ℓ) : Prop :=
  True

def Pre_QuantRefIdeal_gains_finite [hPre_gains_finite : Cert.Pre_gains_finite.Facts] (m : (ℓ : Loc Cert.QuantRefIdeal.nD Cert.QuantRefIdeal.τ Cert.QuantRefIdeal.sig) → Buf (Elt Ideal) ℓ) : Prop :=
  ∀ c : Dev Cert.QuantRefIdeal.nD,
    (Cert.Pre_gains_finite.fn (F := Ideal) (m ((c.tc : Thread Cert.QuantRefIdeal.nD Cert.QuantRefIdeal.τ).loc Cert.QuantRefIdeal.main_arg0)) (m ((c.tc : Thread Cert.QuantRefIdeal.nD Cert.QuantRefIdeal.τ).loc Cert.QuantRefIdeal.main_arg1))) = (fun _ => 1#1)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_QuantIdeal_pre_gains_finite [hQuantIdeal : Cert.QuantIdeal.Facts] [hPre_gains_finite : Cert.Pre_gains_finite.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal_gains_finite m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0)
      ∧ r.2.mem ((c.tc : Thread Cert.QuantRefIdeal.nD Cert.QuantRefIdeal.τ).loc Cert.QuantRefIdeal.main_arg1) = m ((c.tc : Thread Cert.QuantRefIdeal.nD Cert.QuantRefIdeal.τ).loc Cert.QuantRefIdeal.main_arg1))
      ∧ r.2.sem = fun _ => 0)

def quiescent_QuantRefIdeal_pre_gains_finite [hQuantRefIdeal : Cert.QuantRefIdeal.Facts] [hPre_gains_finite : Cert.Pre_gains_finite.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal_gains_finite m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0)
      ∧ r.2.mem ((c.tc : Thread Cert.QuantRefIdeal.nD Cert.QuantRefIdeal.τ).loc Cert.QuantRefIdeal.main_arg1) = m ((c.tc : Thread Cert.QuantRefIdeal.nD Cert.QuantRefIdeal.τ).loc Cert.QuantRefIdeal.main_arg1))
      ∧ r.2.sem = fun _ => 0)

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)) (v2 : (c : Dev Cert.ProjIdeal.nD) → Buf (Elt Ideal) ((c.tc : Thread Cert.ProjIdeal.nD Cert.ProjIdeal.τ).loc Cert.ProjIdeal.main_v3_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_v3_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2_0) = v0 c
          ∧ r.2.mem ((c.tc : Thread Cert.ProjRefIdeal.nD Cert.ProjRefIdeal.τ).loc Cert.ProjRefIdeal.main_v2_1) = v1 c
          ∧ r.2.mem ((c.tc : Thread Cert.ProjRefIdeal.nD Cert.ProjRefIdeal.τ).loc Cert.ProjRefIdeal.main_v2_2) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Quant_QuantIdeal : Prop :=
  True

def algebraic_QuantIdeal_QuantRefIdeal_pre_gains_finite [hQuantIdeal : Cert.QuantIdeal.Facts] [hQuantRefIdeal : Cert.QuantRefIdeal.Facts] [hPre_gains_finite : Cert.Pre_gains_finite.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantIdeal_gains_finite m →
    (∀ c : Dev Cert.QuantIdeal.nD,
      m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)
      ∧ m' ((c.tc : Thread Cert.QuantRefIdeal.nD Cert.QuantRefIdeal.τ).loc Cert.QuantRefIdeal.main_arg1) = m ((c.tc : Thread Cert.QuantIdeal.nD Cert.QuantIdeal.τ).loc Cert.QuantIdeal.main_arg1)) →
    ∃ (v0 : (c : Dev Cert.QuantIdeal.nD) → Buf (Elt Ideal) ((c.tc : Thread Cert.QuantIdeal.nD Cert.QuantIdeal.τ).loc Cert.QuantIdeal.main_v2_0)) (v1 : (c : Dev Cert.QuantIdeal.nD) → Buf (Elt Ideal) ((c.tc : Thread Cert.QuantIdeal.nD Cert.QuantIdeal.τ).loc Cert.QuantIdeal.main_v2_1)) (v2 : (c : Dev Cert.QuantIdeal.nD) → Buf (Elt Ideal) ((c.tc : Thread Cert.QuantIdeal.nD Cert.QuantIdeal.τ).loc Cert.QuantIdeal.main_v2_2)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v2_0) = v0 c
          ∧ r.2.mem ((c.tc : Thread Cert.QuantIdeal.nD Cert.QuantIdeal.τ).loc Cert.QuantIdeal.main_v2_1) = v1 c
          ∧ r.2.mem ((c.tc : Thread Cert.QuantIdeal.nD Cert.QuantIdeal.τ).loc Cert.QuantIdeal.main_v2_2) = v2 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v2_0) = v0 c
          ∧ r.2.mem ((c.tc : Thread Cert.QuantRefIdeal.nD Cert.QuantRefIdeal.τ).loc Cert.QuantRefIdeal.main_v2_1) = v1 c
          ∧ r.2.mem ((c.tc : Thread Cert.QuantRefIdeal.nD Cert.QuantRefIdeal.τ).loc Cert.QuantRefIdeal.main_v2_2) = v2 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0)
          ∧ r.2.mem ((c.tc : Thread Cert.QuantRefIdeal.nD Cert.QuantRefIdeal.τ).loc Cert.QuantRefIdeal.main_arg1) = m' ((c.tc : Thread Cert.QuantRefIdeal.nD Cert.QuantRefIdeal.τ).loc Cert.QuantRefIdeal.main_arg1))

def Claim : Prop :=
  ∃ (hProj : Cert.Proj.Facts) (hProjIdeal : Cert.ProjIdeal.Facts) (hProjRefIdeal : Cert.ProjRefIdeal.Facts) (hQuant : Cert.Quant.Facts) (hQuantIdeal : Cert.QuantIdeal.Facts) (hQuantRefIdeal : Cert.QuantRefIdeal.Facts) (hPre_gains_finite : Cert.Pre_gains_finite.Facts),
    quiescent_Proj (hProj := hProj)
    ∧ quiescent_ProjIdeal (hProjIdeal := hProjIdeal)
    ∧ quiescent_ProjRefIdeal (hProjRefIdeal := hProjRefIdeal)
    ∧ quiescent_Quant (hQuant := hQuant)
    ∧ quiescent_QuantIdeal (hQuantIdeal := hQuantIdeal)
    ∧ quiescent_QuantIdeal_pre_gains_finite (hQuantIdeal := hQuantIdeal) (hPre_gains_finite := hPre_gains_finite)
    ∧ quiescent_QuantRefIdeal (hQuantRefIdeal := hQuantRefIdeal)
    ∧ quiescent_QuantRefIdeal_pre_gains_finite (hQuantRefIdeal := hQuantRefIdeal) (hPre_gains_finite := hPre_gains_finite)
    ∧ preserves_Proj_ProjIdeal
    ∧ algebraic_ProjIdeal_ProjRefIdeal (hProjIdeal := hProjIdeal) (hProjRefIdeal := hProjRefIdeal)
    ∧ preserves_Quant_QuantIdeal
    ∧ algebraic_QuantIdeal_QuantRefIdeal_pre_gains_finite (hQuantIdeal := hQuantIdeal) (hQuantRefIdeal := hQuantRefIdeal) (hPre_gains_finite := hPre_gains_finite)
-- ==== Pre_gains_finite.lean ====
abbrev S3x2048x5120 : Shape := ⟨3, ![3, 2048, 5120]⟩
abbrev S5120 : Shape := ⟨1, ![5120]⟩
abbrev S_ : Shape := ⟨0, ![]⟩

class Facts : Prop where
  bitsLt_bf16_f32 : FTy.bits .bf16 < FTy.bits .f32
  bcast_S_S5120 : S_.BroadcastsInDim S5120 (![] : Fin 0 → Fin S5120.rank)

variable [Facts]

def fn {F : FTy → Type} [FloatOps F] (main_arg0 : FVec F S3x2048x5120 .bf16) (main_arg1 : FVec F S5120 .bf16) : IVec S5120 1 :=
  let main_v0 : FVec F S5120 .f32 := (extf .f32 · bitsLt_bf16_f32) main_arg1
  let main_v1 : FVec F S5120 .f32 := Host.absf main_v0
  let main_cst : FVec F S_ .f32 := constant S_ .f32 0x7F7F0000#32
  let main_v2 : FVec F S5120 .f32 := broadcastInDim S5120 ![] bcast_S_S5120 main_cst
  let main_v3 : IVec S5120 1 := cmpf .ole main_v1 main_v2
  main_v3
-- ==== Proj.lean ====
abbrev S6144x5120 : Shape := ⟨2, ![6144, 5120]⟩
abbrev S5120x15360 : Shape := ⟨2, ![5120, 15360]⟩
abbrev S40x120 : Shape := ⟨2, ![40, 120]⟩
abbrev S128 : Shape := ⟨1, ![128]⟩
abbrev S1x128 : Shape := ⟨2, ![1, 128]⟩
abbrev S2x128 : Shape := ⟨2, ![2, 128]⟩
abbrev S6144x40x128 : Shape := ⟨3, ![6144, 40, 128]⟩
abbrev S512x5120 : Shape := ⟨2, ![512, 5120]⟩
abbrev S5120x1024 : Shape := ⟨2, ![5120, 1024]⟩
abbrev S512x8x128 : Shape := ⟨3, ![512, 8, 128]⟩
abbrev S1x1 : Shape := ⟨2, ![1, 1]⟩
abbrev S128x128 : Shape := ⟨2, ![128, 128]⟩
abbrev S512x1024 : Shape := ⟨2, ![512, 1024]⟩
abbrev S512x8 : Shape := ⟨2, ![512, 8]⟩
abbrev S512x8x1 : Shape := ⟨3, ![512, 8, 1]⟩
abbrev S1x1x128 : Shape := ⟨3, ![1, 1, 128]⟩

abbrev nBuf : Space → Nat
  | .hbm => 11
  | .vmem => 12
  | .smem => 1
  | _ => 0

abbrev bufTy : (tb : Table) → Fin (tcTables nBuf tb) → BufTy
  | .hbm, ⟨0, _⟩ => ⟨S6144x5120, .bf16⟩
  | .hbm, ⟨1, _⟩ => ⟨S5120x15360, .fp8e4m3⟩
  | .hbm, ⟨2, _⟩ => ⟨S40x120, .f32⟩
  | .hbm, ⟨3, _⟩ => ⟨S128, .bf16⟩
  | .hbm, ⟨4, _⟩ => ⟨S128, .bf16⟩
  | .hbm, ⟨5, _⟩ => ⟨S1x128, .bf16⟩
  | .hbm, ⟨6, _⟩ => ⟨S1x128, .bf16⟩
  | .hbm, ⟨7, _⟩ => ⟨S2x128, .bf16⟩
  | .hbm, ⟨8, _⟩ => ⟨S6144x40x128, .bf16⟩
  | .hbm, ⟨9, _⟩ => ⟨S6144x40x128, .bf16⟩
  | .hbm, ⟨10, _⟩ => ⟨S6144x40x128, .bf16⟩
  | .local _ .vmem, ⟨0, _⟩ => ⟨S512x5120, .bf16⟩
  | .local _ .vmem, ⟨1, _⟩ => ⟨S512x5120, .bf16⟩
  | .local _ .vmem, ⟨2, _⟩ => ⟨S5120x1024, .fp8e4m3⟩
  | .local _ .vmem, ⟨3, _⟩ => ⟨S5120x1024, .fp8e4m3⟩
  | .local _ .vmem, ⟨4, _⟩ => ⟨S2x128, .bf16⟩
  | .local _ .vmem, ⟨5, _⟩ => ⟨S512x8x128, .bf16⟩
  | .local _ .vmem, ⟨6, _⟩ => ⟨S512x8x128, .bf16⟩
  | .local _ .vmem, ⟨7, _⟩ => ⟨S512x8x128, .bf16⟩
  | .local _ .vmem, ⟨8, _⟩ => ⟨S512x8x128, .bf16⟩
  | .local _ .vmem, ⟨9, _⟩ => ⟨S512x8x128, .bf16⟩
  | .local _ .vmem, ⟨10, _⟩ => ⟨S512x8x128, .bf16⟩
  | .local _ .vmem, ⟨11, _⟩ => ⟨S5120x1024, .bf16⟩
  | .local _ .smem, ⟨0, _⟩ => ⟨S40x120, .f32⟩
  | _, _ => ⟨S6144x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![15, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_9 : BitVec 32) : Fin 2 → Nat :=
  let c0_10 : Index := 0#32
  let arg0 : BitVec 32 := BitVec.ofNat 32 (i 0).val
  let c8_i32 : BitVec 32 := 8#32
  let v18 : BitVec 32 := Scalar.muli arg0 c8_i32
  let v19 : BitVec 32 := Scalar.addi v18 c0_i32_9
  let v20 : Index := Scalar.indexCast v19
  ![0, v20.toNat]
def k0_off2 (i : grid0.Coords) (c0_i32_52 : BitVec 32) : Fin 2 → Nat :=
  let c1 : Index := 1#32
  let arg0 : BitVec 32 := BitVec.ofNat 32 (i 0).val
  let c8_i32_51 : BitVec 32 := 8#32
  let v114 : BitVec 32 := Scalar.muli arg0 c8_i32_51
  let v115 : BitVec 32 := Scalar.addi v114 c0_i32_52
  let v116 : Index := Scalar.indexCast v115
  ![1, v116.toNat]
def k0_off3 (i : grid0.Coords) (c0_i32_107 : BitVec 32) : Fin 2 → Nat :=
  let c2 : Index := 2#32
  let arg0 : BitVec 32 := BitVec.ofNat 32 (i 0).val
  let c8_i32_106 : BitVec 32 := 8#32
  let v210 : BitVec 32 := Scalar.muli arg0 c8_i32_106
  let v211 : BitVec 32 := Scalar.addi v210 c0_i32_107
  let v212 : Index := Scalar.indexCast v211
  ![2, v212.toNat]
def k0_off4 (i : grid0.Coords) (c0_i32_162 : BitVec 32) : Fin 2 → Nat :=
  let c3 : Index := 3#32
  let arg0 : BitVec 32 := BitVec.ofNat 32 (i 0).val
  let c8_i32_161 : BitVec 32 := 8#32
  let v306 : BitVec 32 := Scalar.muli arg0 c8_i32_161
  let v307 : BitVec 32 := Scalar.addi v306 c0_i32_162
  let v308 : Index := Scalar.indexCast v307
  ![3, v308.toNat]
def k0_off5 (i : grid0.Coords) (c0_i32_217 : BitVec 32) : Fin 2 → Nat :=
  let c4 : Index := 4#32
  let arg0 : BitVec 32 := BitVec.ofNat 32 (i 0).val
  let c8_i32_216 : BitVec 32 := 8#32
  let v402 : BitVec 32 := Scalar.muli arg0 c8_i32_216
  let v403 : BitVec 32 := Scalar.addi v402 c0_i32_217
  let v404 : Index := Scalar.indexCast v403
  ![4, v404.toNat]
def k0_off6 (i : grid0.Coords) (c0_i32_272 : BitVec 32) : Fin 2 → Nat :=
  let c5 : Index := 5#32
  let arg0 : BitVec 32 := BitVec.ofNat 32 (i 0).val
  let c8_i32_271 : BitVec 32 := 8#32
  let v498 : BitVec 32 := Scalar.muli arg0 c8_i32_271
  let v499 : BitVec 32 := Scalar.addi v498 c0_i32_272
  let v500 : Index := Scalar.indexCast v499
  ![5, v500.toNat]
def k0_off7 (i : grid0.Coords) (c0_i32_327 : BitVec 32) : Fin 2 → Nat :=
  let c6 : Index := 6#32
  let arg0 : BitVec 32 := BitVec.ofNat 32 (i 0).val
  let c8_i32_326 : BitVec 32 := 8#32
  let v594 : BitVec 32 := Scalar.muli arg0 c8_i32_326
  let v595 : BitVec 32 := Scalar.addi v594 c0_i32_327
  let v596 : Index := Scalar.indexCast v595
  ![6, v596.toNat]
def k0_off8 (i : grid0.Coords) (c0_i32_382 : BitVec 32) : Fin 2 → Nat :=
  let c7 : Index := 7#32
  let arg0 : BitVec 32 := BitVec.ofNat 32 (i 0).val
  let c8_i32_381 : BitVec 32 := 8#32
  let v690 : BitVec 32 := Scalar.muli arg0 c8_i32_381
  let v691 : BitVec 32 := Scalar.addi v690 c0_i32_382
  let v692 : Index := Scalar.indexCast v691
  ![7, v692.toNat]
def k0_off9 (i : grid0.Coords) (c0_i32_437 : BitVec 32) : Fin 2 → Nat :=
  let c8 : Index := 8#32
  let arg0 : BitVec 32 := BitVec.ofNat 32 (i 0).val
  let c8_i32_436 : BitVec 32 := 8#32
  let v786 : BitVec 32 := Scalar.muli arg0 c8_i32_436
  let v787 : BitVec 32 := Scalar.addi v786 c0_i32_437
  let v788 : Index := Scalar.indexCast v787
  ![8, v788.toNat]
def k0_off10 (i : grid0.Coords) (c0_i32_491 : BitVec 32) : Fin 2 → Nat :=
  let c9 : Index := 9#32
  let arg0 : BitVec 32 := BitVec.ofNat 32 (i 0).val
  let c8_i32_490 : BitVec 32 := 8#32
  let v882 : BitVec 32 := Scalar.muli arg0 c8_i32_490
  let v883 : BitVec 32 := Scalar.addi v882 c0_i32_491
  let v884 : Index := Scalar.indexCast v883
  ![9, v884.toNat]
def k0_off11 (i : grid0.Coords) (c0_i32_545 : BitVec 32) : Fin 2 → Nat :=
  let c10 : Index := 10#32
  let arg0 : BitVec 32 := BitVec.ofNat 32 (i 0).val
  let c8_i32_544 : BitVec 32 := 8#32
  let v978 : BitVec 32 := Scalar.muli arg0 c8_i32_544
  let v979 : BitVec 32 := Scalar.addi v978 c0_i32_545
  let v980 : Index := Scalar.indexCast v979
  ![10, v980.toNat]
def k0_off12 (i : grid0.Coords) (c0_i32_599 : BitVec 32) : Fin 2 → Nat :=
  let c11 : Index := 11#32
  let arg0 : BitVec 32 := BitVec.ofNat 32 (i 0).val
  let c8_i32_598 : BitVec 32 := 8#32
  let v1074 : BitVec 32 := Scalar.muli arg0 c8_i32_598
  let v1075 : BitVec 32 := Scalar.addi v1074 c0_i32_599
  let v1076 : Index := Scalar.indexCast v1075
  ![11, v1076.toNat]
def k0_off13 (i : grid0.Coords) (c0_i32_653 : BitVec 32) : Fin 2 → Nat :=
  let c12 : Index := 12#32
  let arg0 : BitVec 32 := BitVec.ofNat 32 (i 0).val
  let c8_i32_652 : BitVec 32 := 8#32
  let v1170 : BitVec 32 := Scalar.muli arg0 c8_i32_652
  let v1171 : BitVec 32 := Scalar.addi v1170 c0_i32_653
  let v1172 : Index := Scalar.indexCast v1171
  ![12, v1172.toNat]
def k0_off14 (i : grid0.Coords) (c0_i32_707 : BitVec 32) : Fin 2 → Nat :=
  let c13 : Index := 13#32
  let arg0 : BitVec 32 := BitVec.ofNat 32 (i 0).val
  let c8_i32_706 : BitVec 32 := 8#32
  let v1266 : BitVec 32 := Scalar.muli arg0 c8_i32_706
  let v1267 : BitVec 32 := Scalar.addi v1266 c0_i32_707
  let v1268 : Index := Scalar.indexCast v1267
  ![13, v1268.toNat]
def k0_off15 (i : grid0.Coords) (c0_i32_761 : BitVec 32) : Fin 2 → Nat :=
  let c14 : Index := 14#32
  let arg0 : BitVec 32 := BitVec.ofNat 32 (i 0).val
  let c8_i32_760 : BitVec 32 := 8#32
  let v1362 : BitVec 32 := Scalar.muli arg0 c8_i32_760
  let v1363 : BitVec 32 := Scalar.addi v1362 c0_i32_761
  let v1364 : Index := Scalar.indexCast v1363
  ![14, v1364.toNat]
def k0_off16 (i : grid0.Coords) (c0_i32_815 : BitVec 32) : Fin 2 → Nat :=
  let c15 : Index := 15#32
  let arg0 : BitVec 32 := BitVec.ofNat 32 (i 0).val
  let c8_i32_814 : BitVec 32 := 8#32
  let v1458 : BitVec 32 := Scalar.muli arg0 c8_i32_814
  let v1459 : BitVec 32 := Scalar.addi v1458 c0_i32_815
  let v1460 : Index := Scalar.indexCast v1459
  ![15, v1460.toNat]
def k0_off17 (i : grid0.Coords) (c0_i32_869 : BitVec 32) : Fin 2 → Nat :=
  let c16 : Index := 16#32
  let arg0 : BitVec 32 := BitVec.ofNat 32 (i 0).val
  let c8_i32_868 : BitVec 32 := 8#32
  let v1554 : BitVec 32 := Scalar.muli arg0 c8_i32_868
  let v1555 : BitVec 32 := Scalar.addi v1554 c0_i32_869
  let v1556 : Index := Scalar.indexCast v1555
  ![16, v1556.toNat]
def k0_off18 (i : grid0.Coords) (c0_i32_923 : BitVec 32) : Fin 2 → Nat :=
  let c17 : Index := 17#32
  let arg0 : BitVec 32 := BitVec.ofNat 32 (i 0).val
  let c8_i32_922 : BitVec 32 := 8#32
  let v1650 : BitVec 32 := Scalar.muli arg0 c8_i32_922
  let v1651 : BitVec 32 := Scalar.addi v1650 c0_i32_923
  let v1652 : Index := Scalar.indexCast v1651
  ![17, v1652.toNat]
def k0_off19 (i : grid0.Coords) (c0_i32_977 : BitVec 32) : Fin 2 → Nat :=
  let c18 : Index := 18#32
  let arg0 : BitVec 32 := BitVec.ofNat 32 (i 0).val
  let c8_i32_976 : BitVec 32 := 8#32
  let v1746 : BitVec 32 := Scalar.muli arg0 c8_i32_976
  let v1747 : BitVec 32 := Scalar.addi v1746 c0_i32_977
  let v1748 : Index := Scalar.indexCast v1747
  ![18, v1748.toNat]
def k0_off20 (i : grid0.Coords) (c0_i32_1031 : BitVec 32) : Fin 2 → Nat :=
  let c19 : Index := 19#32
  let arg0 : BitVec 32 := BitVec.ofNat 32 (i 0).val
  let c8_i32_1030 : BitVec 32 := 8#32
  let v1842 : BitVec 32 := Scalar.muli arg0 c8_i32_1030
  let v1843 : BitVec 32 := Scalar.addi v1842 c0_i32_1031
  let v1844 : Index := Scalar.indexCast v1843
  ![19, v1844.toNat]
def k0_off21 (i : grid0.Coords) (c0_i32_1085 : BitVec 32) : Fin 2 → Nat :=
  let c20 : Index := 20#32
  let arg0 : BitVec 32 := BitVec.ofNat 32 (i 0).val
  let c8_i32_1084 : BitVec 32 := 8#32
  let v1938 : BitVec 32 := Scalar.muli arg0 c8_i32_1084
  let v1939 : BitVec 32 := Scalar.addi v1938 c0_i32_1085
  let v1940 : Index := Scalar.indexCast v1939
  ![20, v1940.toNat]
def k0_off22 (i : grid0.Coords) (c0_i32_1139 : BitVec 32) : Fin 2 → Nat :=
  let c21 : Index := 21#32
  let arg0 : BitVec 32 := BitVec.ofNat 32 (i 0).val
  let c8_i32_1138 : BitVec 32 := 8#32
  let v2034 : BitVec 32 := Scalar.muli arg0 c8_i32_1138
  let v2035 : BitVec 32 := Scalar.addi v2034 c0_i32_1139
  let v2036 : Index := Scalar.indexCast v2035
  ![21, v2036.toNat]
def k0_off23 (i : grid0.Coords) (c0_i32_1193 : BitVec 32) : Fin 2 → Nat :=
  let c22 : Index := 22#32
  let arg0 : BitVec 32 := BitVec.ofNat 32 (i 0).val
  let c8_i32_1192 : BitVec 32 := 8#32
  let v2130 : BitVec 32 := Scalar.muli arg0 c8_i32_1192
  let v2131 : BitVec 32 := Scalar.addi v2130 c0_i32_1193
  let v2132 : Index := Scalar.indexCast v2131
  ![22, v2132.toNat]
def k0_off24 (i : grid0.Coords) (c0_i32_1247 : BitVec 32) : Fin 2 → Nat :=
  let c23 : Index := 23#32
  let arg0 : BitVec 32 := BitVec.ofNat 32 (i 0).val
  let c8_i32_1246 : BitVec 32 := 8#32
  let v2226 : BitVec 32 := Scalar.muli arg0 c8_i32_1246
  let v2227 : BitVec 32 := Scalar.addi v2226 c0_i32_1247
  let v2228 : Index := Scalar.indexCast v2227
  ![23, v2228.toNat]
def k0_off25 (i : grid0.Coords) (c0_i32_1301 : BitVec 32) : Fin 2 → Nat :=
  let c24 : Index := 24#32
  let arg0 : BitVec 32 := BitVec.ofNat 32 (i 0).val
  let c8_i32_1300 : BitVec 32 := 8#32
  let v2322 : BitVec 32 := Scalar.muli arg0 c8_i32_1300
  let v2323 : BitVec 32 := Scalar.addi v2322 c0_i32_1301
  let v2324 : Index := Scalar.indexCast v2323
  ![24, v2324.toNat]
def k0_off26 (i : grid0.Coords) (c0_i32_1355 : BitVec 32) : Fin 2 → Nat :=
  let c25 : Index := 25#32
  let arg0 : BitVec 32 := BitVec.ofNat 32 (i 0).val
  let c8_i32_1354 : BitVec 32 := 8#32
  let v2418 : BitVec 32 := Scalar.muli arg0 c8_i32_1354
  let v2419 : BitVec 32 := Scalar.addi v2418 c0_i32_1355
  let v2420 : Index := Scalar.indexCast v2419
  ![25, v2420.toNat]
def k0_off27 (i : grid0.Coords) (c0_i32_1409 : BitVec 32) : Fin 2 → Nat :=
  let c26 : Index := 26#32
  let arg0 : BitVec 32 := BitVec.ofNat 32 (i 0).val
  let c8_i32_1408 : BitVec 32 := 8#32
  let v2514 : BitVec 32 := Scalar.muli arg0 c8_i32_1408
  let v2515 : BitVec 32 := Scalar.addi v2514 c0_i32_1409
  let v2516 : Index := Scalar.indexCast v2515
  ![26, v2516.toNat]
def k0_off28 (i : grid0.Coords) (c0_i32_1463 : BitVec 32) : Fin 2 → Nat :=
  let c27 : Index := 27#32
  let arg0 : BitVec 32 := BitVec.ofNat 32 (i 0).val
  let c8_i32_1462 : BitVec 32 := 8#32
  let v2610 : BitVec 32 := Scalar.muli arg0 c8_i32_1462
  let v2611 : BitVec 32 := Scalar.addi v2610 c0_i32_1463
  let v2612 : Index := Scalar.indexCast v2611
  ![27, v2612.toNat]
def k0_off29 (i : grid0.Coords) (c0_i32_1517 : BitVec 32) : Fin 2 → Nat :=
  let c28 : Index := 28#32
  let arg0 : BitVec 32 := BitVec.ofNat 32 (i 0).val
  let c8_i32_1516 : BitVec 32 := 8#32
  let v2706 : BitVec 32 := Scalar.muli arg0 c8_i32_1516
  let v2707 : BitVec 32 := Scalar.addi v2706 c0_i32_1517
  let v2708 : Index := Scalar.indexCast v2707
  ![28, v2708.toNat]
def k0_off30 (i : grid0.Coords) (c0_i32_1571 : BitVec 32) : Fin 2 → Nat :=
  let c29 : Index := 29#32
  let arg0 : BitVec 32 := BitVec.ofNat 32 (i 0).val
  let c8_i32_1570 : BitVec 32 := 8#32
  let v2802 : BitVec 32 := Scalar.muli arg0 c8_i32_1570
  let v2803 : BitVec 32 := Scalar.addi v2802 c0_i32_1571
  let v2804 : Index := Scalar.indexCast v2803
  ![29, v2804.toNat]
def k0_off31 (i : grid0.Coords) (c0_i32_1625 : BitVec 32) : Fin 2 → Nat :=
  let c30 : Index := 30#32
  let arg0 : BitVec 32 := BitVec.ofNat 32 (i 0).val
  let c8_i32_1624 : BitVec 32 := 8#32
  let v2898 : BitVec 32 := Scalar.muli arg0 c8_i32_1624
  let v2899 : BitVec 32 := Scalar.addi v2898 c0_i32_1625
  let v2900 : Index := Scalar.indexCast v2899
  ![30, v2900.toNat]
def k0_off32 (i : grid0.Coords) (c0_i32_1679 : BitVec 32) : Fin 2 → Nat :=
  let c31 : Index := 31#32
  let arg0 : BitVec 32 := BitVec.ofNat 32 (i 0).val
  let c8_i32_1678 : BitVec 32 := 8#32
  let v2994 : BitVec 32 := Scalar.muli arg0 c8_i32_1678
  let v2995 : BitVec 32 := Scalar.addi v2994 c0_i32_1679
  let v2996 : Index := Scalar.indexCast v2995
  ![31, v2996.toNat]
def k0_off33 (i : grid0.Coords) (c0_i32_1733 : BitVec 32) : Fin 2 → Nat :=
  let c32 : Index := 32#32
  let arg0 : BitVec 32 := BitVec.ofNat 32 (i 0).val
  let c8_i32_1732 : BitVec 32 := 8#32
  let v3090 : BitVec 32 := Scalar.muli arg0 c8_i32_1732
  let v3091 : BitVec 32 := Scalar.addi v3090 c0_i32_1733
  let v3092 : Index := Scalar.indexCast v3091
  ![32, v3092.toNat]
def k0_off34 (i : grid0.Coords) (c0_i32_1787 : BitVec 32) : Fin 2 → Nat :=
  let c33 : Index := 33#32
  let arg0 : BitVec 32 := BitVec.ofNat 32 (i 0).val
  let c8_i32_1786 : BitVec 32 := 8#32
  let v3186 : BitVec 32 := Scalar.muli arg0 c8_i32_1786
  let v3187 : BitVec 32 := Scalar.addi v3186 c0_i32_1787
  let v3188 : Index := Scalar.indexCast v3187
  ![33, v3188.toNat]
def k0_off35 (i : grid0.Coords) (c0_i32_1841 : BitVec 32) : Fin 2 → Nat :=
  let c34 : Index := 34#32
  let arg0 : BitVec 32 := BitVec.ofNat 32 (i 0).val
  let c8_i32_1840 : BitVec 32 := 8#32
  let v3282 : BitVec 32 := Scalar.muli arg0 c8_i32_1840
  let v3283 : BitVec 32 := Scalar.addi v3282 c0_i32_1841
  let v3284 : Index := Scalar.indexCast v3283
  ![34, v3284.toNat]
def k0_off36 (i : grid0.Coords) (c0_i32_1895 : BitVec 32) : Fin 2 → Nat :=
  let c35 : Index := 35#32
  let arg0 : BitVec 32 := BitVec.ofNat 32 (i 0).val
  let c8_i32_1894 : BitVec 32 := 8#32
  let v3378 : BitVec 32 := Scalar.muli arg0 c8_i32_1894
  let v3379 : BitVec 32 := Scalar.addi v3378 c0_i32_1895
  let v3380 : Index := Scalar.indexCast v3379
  ![35, v3380.toNat]
def k0_off37 (i : grid0.Coords) (c0_i32_1949 : BitVec 32) : Fin 2 → Nat :=
  let c36 : Index := 36#32
  let arg0 : BitVec 32 := BitVec.ofNat 32 (i 0).val
  let c8_i32_1948 : BitVec 32 := 8#32
  let v3474 : BitVec 32 := Scalar.muli arg0 c8_i32_1948
  let v3475 : BitVec 32 := Scalar.addi v3474 c0_i32_1949
  let v3476 : Index := Scalar.indexCast v3475
  ![36, v3476.toNat]
def k0_off38 (i : grid0.Coords) (c0_i32_2003 : BitVec 32) : Fin 2 → Nat :=
  let c37 : Index := 37#32
  let arg0 : BitVec 32 := BitVec.ofNat 32 (i 0).val
  let c8_i32_2002 : BitVec 32 := 8#32
  let v3570 : BitVec 32 := Scalar.muli arg0 c8_i32_2002
  let v3571 : BitVec 32 := Scalar.addi v3570 c0_i32_2003
  let v3572 : Index := Scalar.indexCast v3571
  ![37, v3572.toNat]
def k0_off39 (i : grid0.Coords) (c0_i32_2057 : BitVec 32) : Fin 2 → Nat :=
  let c38 : Index := 38#32
  let arg0 : BitVec 32 := BitVec.ofNat 32 (i 0).val
  let c8_i32_2056 : BitVec 32 := 8#32
  let v3666 : BitVec 32 := Scalar.muli arg0 c8_i32_2056
  let v3667 : BitVec 32 := Scalar.addi v3666 c0_i32_2057
  let v3668 : Index := Scalar.indexCast v3667
  ![38, v3668.toNat]
def k0_off40 (i : grid0.Coords) (c0_i32_2111 : BitVec 32) : Fin 2 → Nat :=
  let c39 : Index := 39#32
  let arg0 : BitVec 32 := BitVec.ofNat 32 (i 0).val
  let c8_i32_2110 : BitVec 32 := 8#32
  let v3762 : BitVec 32 := Scalar.muli arg0 c8_i32_2110
  let v3763 : BitVec 32 := Scalar.addi v3762 c0_i32_2111
  let v3764 : Index := Scalar.indexCast v3763
  ![39, v3764.toNat]
def k0_cond2 (i : grid0.Coords) : BitVec 1 :=
  let arg0 : BitVec 32 := BitVec.ofNat 32 (i 0).val
  let c5_i32 : BitVec 32 := 5#32
  let v7 : BitVec 1 := Scalar.cmpi .slt arg0 c5_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg0 : BitVec 32 := BitVec.ofNat 32 (i 0).val
  let c5_i32_5 : BitVec 32 := 5#32
  let v10 : BitVec 1 := Scalar.cmpi .sge arg0 c5_i32_5
  let c10_i32 : BitVec 32 := 10#32
  let v11 : BitVec 1 := Scalar.cmpi .slt arg0 c10_i32
  let v12 : BitVec 1 := Scalar.andi v10 v11
  let v13 : BitVec 32 := Scalar.extui v12
  let c0_i32_6 : BitVec 32 := 0#32
  let v14 : BitVec 1 := Scalar.cmpi .ne v13 c0_i32_6
  v14

def k0_cond4 (i : grid0.Coords) : BitVec 1 :=
  let arg0 : BitVec 32 := BitVec.ofNat 32 (i 0).val
  let c10_i32_7 : BitVec 32 := 10#32
  let v15 : BitVec 1 := Scalar.cmpi .sge arg0 c10_i32_7
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c5_i32 : BitVec 32 := 5#32
  let v1 : BitVec 1 := Scalar.cmpi .sge arg0 c5_i32
  let c11_i32 : BitVec 32 := 11#32
  let v2 : BitVec 32 := Scalar.select v1 c11_i32 arg1
  let c0_i32_0 : BitVec 32 := 0#32
  let v3 : BitVec 32 := Scalar.select v0 c0_i32_0 v2
  let c0_i32_1 : BitVec 32 := 0#32
  let v4 : BitVec 32 := Scalar.subi arg0 c0_i32_1
  let c0_i32_2 : BitVec 32 := 0#32
  let c4_i32 : BitVec 32 := 4#32
  let v5 : BitVec 32 := Scalar.maxsi c0_i32_2 v4
  let v6 : BitVec 32 := Scalar.minsi c4_i32 v5
  let c0_i32_3 : BitVec 32 := 0#32
  let c0_i32_4 : BitVec 32 := 0#32
  ![v3.toNat, v6.toNat, c0_i32_3.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 1 := Scalar.cmpi .slt arg0 c5_i32
  let c10_i32 : BitVec 32 := 10#32
  let v1 : BitVec 1 := Scalar.cmpi .sge arg0 c10_i32
  let c11_i32 : BitVec 32 := 11#32
  let v2 : BitVec 32 := Scalar.select v1 c11_i32 arg1
  let c0_i32 : BitVec 32 := 0#32
  let v3 : BitVec 32 := Scalar.select v0 c0_i32 v2
  let c5_i32_0 : BitVec 32 := 5#32
  let v4 : BitVec 32 := Scalar.subi arg0 c5_i32_0
  let c0_i32_1 : BitVec 32 := 0#32
  let c4_i32 : BitVec 32 := 4#32
  let v5 : BitVec 32 := Scalar.maxsi c0_i32_1 v4
  let v6 : BitVec 32 := Scalar.minsi c4_i32 v5
  let c0_i32_2 : BitVec 32 := 0#32
  let c0_i32_3 : BitVec 32 := 0#32
  ![v3.toNat, v6.toNat, c0_i32_2.toNat]

def cc0_transform_6 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 1 := Scalar.cmpi .slt arg0 c10_i32
  let c15_i32 : BitVec 32 := 15#32
  let v1 : BitVec 1 := Scalar.cmpi .sge arg0 c15_i32
  let c11_i32 : BitVec 32 := 11#32
  let v2 : BitVec 32 := Scalar.select v1 c11_i32 arg1
  let c0_i32 : BitVec 32 := 0#32
  let v3 : BitVec 32 := Scalar.select v0 c0_i32 v2
  let c10_i32_0 : BitVec 32 := 10#32
  let v4 : BitVec 32 := Scalar.subi arg0 c10_i32_0
  let c0_i32_1 : BitVec 32 := 0#32
  let c4_i32 : BitVec 32 := 4#32
  let v5 : BitVec 32 := Scalar.maxsi c0_i32_1 v4
  let v6 : BitVec 32 := Scalar.minsi c4_i32 v5
  let c0_i32_2 : BitVec 32 := 0#32
  let c0_i32_3 : BitVec 32 := 0#32
  ![v3.toNat, v6.toNat, c0_i32_2.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5120x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .smem S40x120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x8x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x8x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjRefIdeal.lean ====
abbrev S6144x5120 : Shape := ⟨2, ![6144, 5120]⟩
abbrev S5120x15360 : Shape := ⟨2, ![5120, 15360]⟩
abbrev S40x120 : Shape := ⟨2, ![40, 120]⟩
abbrev S128 : Shape := ⟨1, ![128]⟩
abbrev S1x128 : Shape := ⟨2, ![1, 128]⟩
abbrev S6144x40x128 : Shape := ⟨3, ![6144, 40, 128]⟩
abbrev S40x128x120x128 : Shape := ⟨4, ![40, 128, 120, 128]⟩
abbrev S40x1x120x1 : Shape := ⟨4, ![40, 1, 120, 1]⟩
abbrev S6144x15360 : Shape := ⟨2, ![6144, 15360]⟩
abbrev S6144x40 : Shape := ⟨2, ![6144, 40]⟩
abbrev S6144x40x1 : Shape := ⟨3, ![6144, 40, 1]⟩
abbrev S1x1x128 : Shape := ⟨3, ![1, 1, 128]⟩

abbrev nBuf : Space → Nat
  | .hbm => 10
  | .vmem => 8
  | .smem => 0
  | _ => 0

abbrev bufTy : (tb : Table) → Fin (tcTables nBuf tb) → BufTy
  | .hbm, ⟨0, _⟩ => ⟨S6144x5120, .bf16⟩
  | .hbm, ⟨1, _⟩ => ⟨S5120x15360, .fp8e4m3⟩
  | .hbm, ⟨2, _⟩ => ⟨S40x120, .f32⟩
  | .hbm, ⟨3, _⟩ => ⟨S128, .bf16⟩
  | .hbm, ⟨4, _⟩ => ⟨S128, .bf16⟩
  | .hbm, ⟨5, _⟩ => ⟨S1x128, .bf16⟩
  | .hbm, ⟨6, _⟩ => ⟨S1x128, .bf16⟩
  | .hbm, ⟨7, _⟩ => ⟨S6144x40x128, .bf16⟩
  | .hbm, ⟨8, _⟩ => ⟨S6144x40x128, .bf16⟩
  | .hbm, ⟨9, _⟩ => ⟨S6144x40x128, .bf16⟩
  | .local _ .vmem, ⟨0, _⟩ => ⟨S6144x5120, .bf16⟩
  | .local _ .vmem, ⟨1, _⟩ => ⟨S5120x15360, .fp8e4m3⟩
  | .local _ .vmem, ⟨2, _⟩ => ⟨S40x120, .f32⟩
  | .local _ .vmem, ⟨3, _⟩ => ⟨S1x128, .bf16⟩
  | .local _ .vmem, ⟨4, _⟩ => ⟨S1x128, .bf16⟩
  | .local _ .vmem, ⟨5, _⟩ => ⟨S6144x40x128, .bf16⟩
  | .local _ .vmem, ⟨6, _⟩ => ⟨S6144x40x128, .bf16⟩
  | .local _ .vmem, ⟨7, _⟩ => ⟨S6144x40x128, .bf16⟩
  | _, _ => ⟨S6144x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6144x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x15360 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x40x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x40x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x40x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Quant.lean ====
abbrev S3x2048x5120 : Shape := ⟨3, ![3, 2048, 5120]⟩
abbrev S5120 : Shape := ⟨1, ![5120]⟩
abbrev S6144x5120 : Shape := ⟨2, ![6144, 5120]⟩
abbrev S1x5120 : Shape := ⟨2, ![1, 5120]⟩
abbrev S6144x40 : Shape := ⟨2, ![6144, 40]⟩
abbrev S128x5120 : Shape := ⟨2, ![128, 5120]⟩
abbrev S128x40 : Shape := ⟨2, ![128, 40]⟩
abbrev S128 : Shape := ⟨1, ![128]⟩
abbrev S128x1 : Shape := ⟨2, ![128, 1]⟩
abbrev S128x128 : Shape := ⟨2, ![128, 128]⟩
abbrev S1x128 : Shape := ⟨2, ![1, 128]⟩

abbrev nBuf : Space → Nat
  | .hbm => 7
  | .vmem => 9
  | .smem => 0
  | _ => 0

abbrev bufTy : (tb : Table) → Fin (tcTables nBuf tb) → BufTy
  | .hbm, ⟨0, _⟩ => ⟨S3x2048x5120, .bf16⟩
  | .hbm, ⟨1, _⟩ => ⟨S5120, .bf16⟩
  | .hbm, ⟨2, _⟩ => ⟨S6144x5120, .bf16⟩
  | .hbm, ⟨3, _⟩ => ⟨S1x5120, .bf16⟩
  | .hbm, ⟨4, _⟩ => ⟨S6144x5120, .fp8e4m3⟩
  | .hbm, ⟨5, _⟩ => ⟨S6144x40, .f32⟩
  | .hbm, ⟨6, _⟩ => ⟨S6144x5120, .bf16⟩
  | .local _ .vmem, ⟨0, _⟩ => ⟨S128x5120, .bf16⟩
  | .local _ .vmem, ⟨1, _⟩ => ⟨S128x5120, .bf16⟩
  | .local _ .vmem, ⟨2, _⟩ => ⟨S1x5120, .bf16⟩
  | .local _ .vmem, ⟨3, _⟩ => ⟨S128x5120, .fp8e4m3⟩
  | .local _ .vmem, ⟨4, _⟩ => ⟨S128x5120, .fp8e4m3⟩
  | .local _ .vmem, ⟨5, _⟩ => ⟨S128x40, .f32⟩
  | .local _ .vmem, ⟨6, _⟩ => ⟨S128x40, .f32⟩
  | .local _ .vmem, ⟨7, _⟩ => ⟨S128x5120, .bf16⟩
  | .local _ .vmem, ⟨8, _⟩ => ⟨S128x5120, .bf16⟩
  | _, _ => ⟨S3x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QuantRefIdeal.lean ====
abbrev S3x2048x5120 : Shape := ⟨3, ![3, 2048, 5120]⟩
abbrev S5120 : Shape := ⟨1, ![5120]⟩
abbrev S6144x5120 : Shape := ⟨2, ![6144, 5120]⟩
abbrev S1x5120 : Shape := ⟨2, ![1, 5120]⟩
abbrev S6144x40 : Shape := ⟨2, ![6144, 40]⟩
abbrev S6144 : Shape := ⟨1, ![6144]⟩
abbrev S6144x1 : Shape := ⟨2, ![6144, 1]⟩
abbrev S6144x40x128 : Shape := ⟨3, ![6144, 40, 128]⟩
abbrev S1x1x254 : Shape := ⟨3, ![1, 1, 254]⟩
abbrev S6144x40x1 : Shape := ⟨3, ![6144, 40, 1]⟩
abbrev S6144x40x254 : Shape := ⟨3, ![6144, 40, 254]⟩

abbrev nBuf : Space → Nat
  | .hbm => 7
  | .vmem => 5
  | .smem => 0
  | _ => 0

abbrev bufTy : (tb : Table) → Fin (tcTables nBuf tb) → BufTy
  | .hbm, ⟨0, _⟩ => ⟨S3x2048x5120, .bf16⟩
  | .hbm, ⟨1, _⟩ => ⟨S5120, .bf16⟩
  | .hbm, ⟨2, _⟩ => ⟨S6144x5120, .bf16⟩
  | .hbm, ⟨3, _⟩ => ⟨S1x5120, .bf16⟩
  | .hbm, ⟨4, _⟩ => ⟨S6144x5120, .fp8e4m3⟩
  | .hbm, ⟨5, _⟩ => ⟨S6144x40, .f32⟩
  | .hbm, ⟨6, _⟩ => ⟨S6144x5120, .bf16⟩
  | .local _ .vmem, ⟨0, _⟩ => ⟨S6144x5120, .bf16⟩
  | .local _ .vmem, ⟨1, _⟩ => ⟨S1x5120, .bf16⟩
  | .local _ .vmem, ⟨2, _⟩ => ⟨S6144x5120, .fp8e4m3⟩
  | .local _ .vmem, ⟨3, _⟩ => ⟨S6144x40, .f32⟩
  | .local _ .vmem, ⟨4, _⟩ => ⟨S6144x5120, .bf16⟩
  | _, _ => ⟨S3x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6144x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.WordRun.lean ====
/-
  The projection's body at one point.
  Here of the program at machine words; ProjRun.lean says the same of the program over the reals.
-/
module

public import proofs.«01_k».proof.Proof.Gen.Proj.Frame
public import proofs.«01_k».proof.Proof.Gen.Proj.Skeleton
public import Idealize.ShloMosaic.Lib.Pipeline.ValueKit

@[expose] public section

set_option maxRecDepth 16384

noncomputable section

namespace Cert.Proj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three kinds of column block, by the conditions of the body's stores. -/
def Kinds (i : grid0.Coords) : Prop :=
  (k0_cond2 i = 1#1 ∧ ¬ k0_cond3 i = 1#1 ∧ ¬ k0_cond4 i = 1#1)
    ∨ (¬ k0_cond2 i = 1#1 ∧ k0_cond3 i = 1#1 ∧ ¬ k0_cond4 i = 1#1)
    ∨ (¬ k0_cond2 i = 1#1 ∧ ¬ k0_cond3 i = 1#1 ∧ k0_cond4 i = 1#1)

/-- The first row of the gains, as the body reads it; -/
def gainQ (x3 : Vec F S2x128 .bf16) : Vec F S1x128 .bf16 :=
  View.ld (Val := Elt F) (e' := .bf16) x3 (Rect.unit (s := S2x128) ![0, 0] S1x128.size inb_S2x128_S1x128_0_0)

/-- and the second. -/
def gainK (x3 : Vec F S2x128 .bf16) : Vec F S1x128 .bf16 :=
  View.ld (Val := Elt F) (e' := .bf16) x3 (Rect.unit (s := S2x128) ![1, 0] S1x128.size inb_S2x128_S1x128_1_0)

/-- A load of a whole buffer reads all of it. -/
theorem readAt_whole {κ : Kind} {sp : Space} {s : Shape} {e : EltTy} (v : View sig κ sp s e) (off : Fin s.rank → Nat)
    (inb) (h : ∀ a, off a = 0) (f : v.ty.Contents (Elt F)) :
    v.readAt (Elt F) (Rect.unit (s := s) off s.size inb).toLoadRect f = v.read (Elt F) f := by
  funext x
  exact View.ld_unit_apply_of (Val := Elt F) (v.read (Elt F) f) off s.size inb x x fun a => by rw [h a, Nat.zero_add]

/-- A store over a whole buffer leaves what was stored. -/
theorem read_store_whole {κ : Kind} {sp : Space} {s : Shape} {e : EltTy} (v : View sig κ sp s e) (off : Fin s.rank → Nat)
    (inb) (h : ∀ a, off a = 0) (f : v.ty.Contents (Elt F)) (w : (Rect.unit (s := s) off s.size inb).shape.Idx → Elt F e) :
    v.read (Elt F) (v.writes (Elt F) f [⟨Rect.unit (s := s) off s.size inb, w⟩]) = w := by
  obtain rfl : off = fun _ => 0 := funext h
  funext y
  have e : (Rect.unit (s := s) (fun _ => 0) s.size inb).emb y = y := by
    funext a; exact Fin.ext (by rw [Rect.emb_apply]; show 0 + 1 * (y a : Nat) = _; omega)
  exact (congrArg _ e.symm).trans (View.read_writes_cons_emb v f _ w [] y)

theorem zeros2 : ∀ a : Fin 2, (![0, 0] : Fin 2 → Nat) a = 0 := by decide
theorem zeros3 : ∀ a : Fin 3, (![0, 0, 0] : Fin 3 → Nat) a = 0 := by decide

open Classical in
/-- The body where the weight tile is in its buffer already. -/
theorem run_use (c : Dev nD) (i : grid0.Coords) (arg2 : Memref sig .tc .vmem S512x5120 .bf16) (harg2 : arg2.IsWhole) (arg3 : Memref sig .tc .vmem S5120x1024 .fp8e4m3) (harg3 : arg3.IsWhole) (arg4 : Memref sig .tc .smem S40x120 .f32) (harg4 : arg4.IsWhole) (arg5 : Memref sig .tc .vmem S2x128 .bf16) (harg5 : arg5.IsWhole) (arg6 : Memref sig .tc .vmem S512x8x128 .bf16) (harg6 : arg6.IsWhole) (arg7 : Memref sig .tc .vmem S512x8x128 .bf16) (harg7 : arg7.IsWhole) (arg8 : Memref sig .tc .vmem S512x8x128 .bf16) (harg8 : arg8.IsWhole) (arg9 : Memref sig .tc .vmem S5120x1024 .bf16) (harg9 : arg9.IsWhole)
    (hc0 : ¬ k0_cond1 i = 1#1) (hk : Kinds i)
    (x0 : Vec F S512x5120 .bf16) (x1 : Vec F S5120x1024 .fp8e4m3) (x2 : Vec F S40x120 .f32) (x3 : Vec F S2x128 .bf16)
    (d4 d5 d6 : Vec F S512x8x128 .bf16) (w : Vec F S5120x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d4 ∗ owns (c : Thread nD τ) arg7 fullShare d5 ∗ owns (c : Thread nD τ) arg8 fullShare d6 ∗ owns (c : Thread nD τ) arg9 fullShare w
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (if k0_cond2 i = 1#1 then k0_pay4 x0 w (gainQ x3) else d4)
            ∗ owns (c : Thread nD τ) arg7 fullShare (if k0_cond3 i = 1#1 then k0_pay5 x0 w (gainK x3) else d5)
            ∗ owns (c : Thread nD τ) arg8 fullShare (if k0_cond4 i = 1#1 then k0_pay6 x0 w else d6)
            ∗ owns (c : Thread nD τ) arg9 fullShare w) -∗ K ⟨⟩))
      ⊢ wp frame (wpE (defs₀ (F := F)) Variants.none c none) E (cc0_qkv_proj i arg2 harg2 arg3 harg3 arg4 harg4 arg5 harg5 arg6 harg6 arg7 harg7 arg8 harg8 arg9 harg9) K := by
  simp only [cc0_qkv_proj_eq_skeleton]; unfold cc0_qkv_proj_skel
  unfold owns
  rcases hk with ⟨hc1, hc2, hc3⟩ | ⟨hc1, hc2, hc3⟩ | ⟨hc1, hc2, hc3⟩
  all_goals
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    subst hf0 hf1 hf2 hf3 hf4 hf5 hf6 hf7
    sl_exec (disch := first | sl_exact hc0 | sl_exact hc1 | sl_exact hc2 | sl_exact hc3)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; swap; · iexact H4
      ipureintro
      first
        | exact (if_neg hc1).symm
        | rw [if_pos hc1, read_store_whole _ _ _ zeros3, readAt_whole _ _ _ zeros2, readAt_whole _ _ _ zeros2]; rfl
    isplitl [H5]
    · iexists _; isplitr; swap; · iexact H5
      ipureintro
      first
        | exact (if_neg hc2).symm
        | rw [if_pos hc2, read_store_whole _ _ _ zeros3, readAt_whole _ _ _ zeros2, readAt_whole _ _ _ zeros2]; rfl
    isplitl [H6]
    · iexists _; isplitr; swap; · iexact H6
      ipureintro
      first
        | exact (if_neg hc3).symm
        | rw [if_pos hc3, read_store_whole _ _ _ zeros3, readAt_whole _ _ _ zeros2, readAt_whole _ _ _ zeros2]
    iexists _; isplitr; swap; · iexact H7
    ipureintro; rfl

end Cert.Proj.Gen

end
-- ==== Proof.WordFill.lean ====
/-
  The projection's body at one point.
  Here of the program at machine words; ProjFill.lean says the same of the program over the reals.
-/
module

public import proofs.«01_k».proof.Proof.WordRun
public import proofs.«01_k».proof.Proof.Gen.Proj.Skeleton

@[expose] public section

set_option maxRecDepth 16384

noncomputable section

namespace Cert.Proj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Where the `k`-th of the 320 pieces of the weight tile lies; -/
def tileOff (k : Nat) : Fin 2 → Nat := ![128 * (k / 8), 128 * (k % 8)]

theorem tileOff_inb (k : Nat) (h : k < 320) : ∀ a : Fin 2, tileOff k a + S128x128.size a ≤ S5120x1024.size a := by
  intro a
  fin_cases a
  · show 128 * (k / 8) + 128 ≤ 5120; omega
  · show 128 * (k % 8) + 128 ≤ 1024; omega

/-- where the block's scale lies. -/
def scaleOff (i : grid0.Coords) (k : Nat) : Fin 2 → Nat :=
  ![k / 8, (Scalar.indexCast (Scalar.addi (Scalar.muli (BitVec.ofNat 32 (i 0).val) 8#32) (BitVec.ofNat 32 (k % 8)))).toNat]

theorem scaleOff_col (i : grid0.Coords) (k : Nat) : scaleOff i k 1 = 8 * (i 0).val + k % 8 := by
  have h0 : (i 0).val < 15 := (i 0).isLt
  show ((BitVec.ofNat 32 (i 0).val * 8#32 + BitVec.ofNat 32 (k % 8))).toNat = _
  rw [BitVec.toNat_add, BitVec.toNat_mul, BitVec.toNat_ofNat, BitVec.toNat_ofNat, BitVec.toNat_ofNat]
  omega

theorem scaleOff_inb (i : grid0.Coords) (k : Nat) (h : k < 320) : ∀ a : Fin 2, scaleOff i k a + S1x1.size a ≤ S40x120.size a := by
  have h0 : (i 0).val < 15 := (i 0).isLt
  intro a
  fin_cases a
  · show k / 8 + 1 ≤ 40; omega
  · show scaleOff i k 1 + 1 ≤ 120
    rw [scaleOff_col]; omega

/-- The `k`-th piece: the block of the weights times its scale. -/
def piece (i : grid0.Coords) (x1 : Vec F S5120x1024 .fp8e4m3) (x2 : Vec F S40x120 .f32) (k : Nat) (h : k < 320) :
    Vec F S128x128 .bf16 :=
  k0_pay2
    (View.ld (Val := Elt F) (e' := .f32) x2 (Rect.unit (s := S40x120) (scaleOff i k) S1x1.size (scaleOff_inb i k h))
      (Shape.Idx.first (Nat.lt_of_lt_of_eq Nat.zero_lt_one numel1_S1x1.symm)))
    (View.ld (Val := Elt F) (e' := .fp8e4m3) x1 (Rect.unit (s := S5120x1024) (tileOff k) S128x128.size (tileOff_inb k h)))

/-- The pieces in the order the buffer was written, the last first. -/
def pieces (i : grid0.Coords) (x1 : Vec F S5120x1024 .fp8e4m3) (x2 : Vec F S40x120 .f32) :
    List (View.Piece (Elt F) S5120x1024 .bf16) :=
  List.ofFn fun k : Fin 320 => (⟨Rect.unit (s := S5120x1024) (tileOff (319 - k.val)) S128x128.size (tileOff_inb _ (by omega)),
    piece i x1 x2 (319 - k.val) (by omega)⟩ : View.Piece (Elt F) S5120x1024 .bf16)

/-- The pieces cover the tile. -/
theorem pieces_cover (i : grid0.Coords) (x1 : Vec F S5120x1024 .fp8e4m3) (x2 : Vec F S40x120 .f32) (y : S5120x1024.Idx) :
    ∃ p ∈ pieces i x1 x2, y ∈ p.1.set := by
  have h0 : (y 0).val < 5120 := (y 0).isLt
  have h1 : (y 1).val < 1024 := (y 1).isLt
  have hk : 319 - ((y 0).val / 128 * 8 + (y 1).val / 128) < 320 := by omega
  refine ⟨_, (List.mem_ofFn).mpr ⟨⟨319 - ((y 0).val / 128 * 8 + (y 1).val / 128), hk⟩, rfl⟩, ?_⟩
  show y ∈ (Rect.unit (s := S5120x1024) (tileOff (319 - (319 - ((y 0).val / 128 * 8 + (y 1).val / 128)))) S128x128.size
    (tileOff_inb _ (by omega))).set
  rw [Rect.mem_set_unit]
  intro a
  fin_cases a
  · show 128 * ((319 - (319 - ((y 0).val / 128 * 8 + (y 1).val / 128))) / 8) ≤ (y 0).val ∧ (y 0).val < 128 * ((319 - (319 - ((y 0).val / 128 * 8 + (y 1).val / 128))) / 8) + 128
    omega
  · show 128 * ((319 - (319 - ((y 0).val / 128 * 8 + (y 1).val / 128))) % 8) ≤ (y 1).val ∧ (y 1).val < 128 * ((319 - (319 - ((y 0).val / 128 * 8 + (y 1).val / 128))) % 8) + 128
    omega

/-- The weight tile, dequantised. -/
def wtile (i : grid0.Coords) (x1 : Vec F S5120x1024 .fp8e4m3) (x2 : Vec F S40x120 .f32) : Vec F S5120x1024 .bf16 :=
  View.canon (Val := Elt F) (pieces i x1 x2)

/-- A load of the whole tile after the pieces were stored reads the tile. -/
theorem loaded (v : View sig .tc .vmem S5120x1024 .bf16) (i : grid0.Coords) (x1 : Vec F S5120x1024 .fp8e4m3) (x2 : Vec F S40x120 .f32) :
    v.readCov (Val := Elt F) (pieces i x1 x2) (Rect.unit (s := S5120x1024) ![0, 0] S5120x1024.size inb_S5120x1024_S5120x1024_0_0).toLoadRect
      = wtile i x1 x2 := by
  rw [View.readCov_eq_canon_ld v _ _ (pieces_cover i x1 x2)]
  funext y
  exact View.ld_unit_apply_of (Val := Elt F) (wtile i x1 x2) ![0, 0] S5120x1024.size inb_S5120x1024_S5120x1024_0_0 y y
    fun a => by rw [zeros2 a, Nat.zero_add]

open Classical in
set_option maxHeartbeats 12000000 in
/-- The body where the weight tile is made. -/
theorem run_fill (c : Dev nD) (i : grid0.Coords) (arg2 : Memref sig .tc .vmem S512x5120 .bf16) (harg2 : arg2.IsWhole) (arg3 : Memref sig .tc .vmem S5120x1024 .fp8e4m3) (harg3 : arg3.IsWhole) (arg4 : Memref sig .tc .smem S40x120 .f32) (harg4 : arg4.IsWhole) (arg5 : Memref sig .tc .vmem S2x128 .bf16) (harg5 : arg5.IsWhole) (arg6 : Memref sig .tc .vmem S512x8x128 .bf16) (harg6 : arg6.IsWhole) (arg7 : Memref sig .tc .vmem S512x8x128 .bf16) (harg7 : arg7.IsWhole) (arg8 : Memref sig .tc .vmem S512x8x128 .bf16) (harg8 : arg8.IsWhole) (arg9 : Memref sig .tc .vmem S5120x1024 .bf16) (harg9 : arg9.IsWhole)
    (hc0 : k0_cond1 i = 1#1) (hk : Kinds i)
    (x0 : Vec F S512x5120 .bf16) (x1 : Vec F S5120x1024 .fp8e4m3) (x2 : Vec F S40x120 .f32) (x3 : Vec F S2x128 .bf16)
    (d4 d5 d6 : Vec F S512x8x128 .bf16) (w : Vec F S5120x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d4 ∗ owns (c : Thread nD τ) arg7 fullShare d5 ∗ owns (c : Thread nD τ) arg8 fullShare d6 ∗ owns (c : Thread nD τ) arg9 fullShare w
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (if k0_cond2 i = 1#1 then k0_pay4 x0 (wtile i x1 x2) (gainQ x3) else d4)
            ∗ owns (c : Thread nD τ) arg7 fullShare (if k0_cond3 i = 1#1 then k0_pay5 x0 (wtile i x1 x2) (gainK x3) else d5)
            ∗ owns (c : Thread nD τ) arg8 fullShare (if k0_cond4 i = 1#1 then k0_pay6 x0 (wtile i x1 x2) else d6)
            ∗ owns (c : Thread nD τ) arg9 fullShare (wtile i x1 x2)) -∗ K ⟨⟩))
      ⊢ wp frame (wpE (defs₀ (F := F)) Variants.none c none) E (cc0_qkv_proj i arg2 harg2 arg3 harg3 arg4 harg4 arg5 harg5 arg6 harg6 arg7 harg7 arg8 harg8 arg9 harg9) K := by
  simp only [cc0_qkv_proj_eq_skeleton]; unfold cc0_qkv_proj_skel
  simp only [k0_part107_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part108_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton]
  unfold owns
  rcases hk with ⟨hc1, hc2, hc3⟩ | ⟨hc1, hc2, hc3⟩ | ⟨hc1, hc2, hc3⟩
  all_goals
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    subst hf0 hf1 hf2 hf3 hf4 hf5 hf6 hf7
    sl_exec (disch := first | sl_exact hc0 | sl_exact hc1 | sl_exact hc2 | sl_exact hc3)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; swap; · iexact H4
      ipureintro
      first
        | exact (if_neg hc1).symm
        | rw [if_pos hc1, read_store_whole _ _ _ zeros3, readAt_whole _ _ _ zeros2]
          exact congrArg (fun w => k0_pay4 (arg2.view.read (Elt F) f0) w (gainQ (arg5.view.read (Elt F) f3)))
            (loaded arg9.view i (arg3.view.read (Elt F) f1) (arg4.view.read (Elt F) f2))
    isplitl [H5]
    · iexists _; isplitr; swap; · iexact H5
      ipureintro
      first
        | exact (if_neg hc2).symm
        | rw [if_pos hc2, read_store_whole _ _ _ zeros3, readAt_whole _ _ _ zeros2]
          exact congrArg (fun w => k0_pay5 (arg2.view.read (Elt F) f0) w (gainK (arg5.view.read (Elt F) f3)))
            (loaded arg9.view i (arg3.view.read (Elt F) f1) (arg4.view.read (Elt F) f2))
    isplitl [H6]
    · iexists _; isplitr; swap; · iexact H6
      ipureintro
      first
        | exact (if_neg hc3).symm
        | rw [if_pos hc3, read_store_whole _ _ _ zeros3, readAt_whole _ _ _ zeros2]
          exact congrArg (fun w => k0_pay6 (arg2.view.read (Elt F) f0) w)
            (loaded arg9.view i (arg3.view.read (Elt F) f1) (arg4.view.read (Elt F) f2))
    iexists _; isplitr; swap; · iexact H7
    ipureintro
    exact View.read_writes_eq_canon arg9.view f7 (pieces i (arg3.view.read (Elt F) f1) (arg4.view.read (Elt F) f2)) (pieces_cover _ _ _)

end Cert.Proj.Gen

end
-- ==== Proof.WordFrame.lean ====
/-
  The projection's frame: what the staging buffers and the weight buffer hold from point to point.
  Here of the program at machine words; ProjFrame.lean says the same of the program over the reals.
-/
module

public import proofs.«01_k».proof.Proof.WordFill
public import proofs.«01_k».proof.Proof.Gen.Proj.Skeleton
public import Idealize.ShloMosaic.Lib.Pipeline.TableIdle

@[expose] public section

set_option maxRecDepth 16384

noncomputable section

namespace Cert.Proj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid: point `t` is column block `t / 12` and row block `t % 12` -/

theorem fills (t : Fin cfg0.N) : k0_cond1 (grid0.coords t) = 1#1 ↔ t.val % 12 = 0 :=
  (by decide +kernel : ∀ t : Fin grid0.N, k0_cond1 (grid0.coords t) = 1#1 ↔ t.val % 12 = 0) t
theorem storesQ (t : Fin cfg0.N) : k0_cond2 (grid0.coords t) = 1#1 ↔ t.val < 60 :=
  (by decide +kernel : ∀ t : Fin grid0.N, k0_cond2 (grid0.coords t) = 1#1 ↔ t.val < 60) t
theorem storesK (t : Fin cfg0.N) : k0_cond3 (grid0.coords t) = 1#1 ↔ (60 ≤ t.val ∧ t.val < 120) :=
  (by decide +kernel : ∀ t : Fin grid0.N, k0_cond3 (grid0.coords t) = 1#1 ↔ (60 ≤ t.val ∧ t.val < 120)) t
theorem storesV (t : Fin cfg0.N) : k0_cond4 (grid0.coords t) = 1#1 ↔ 120 ≤ t.val :=
  (by decide +kernel : ∀ t : Fin grid0.N, k0_cond4 (grid0.coords t) = 1#1 ↔ 120 ≤ t.val) t

theorem lt_180 (t : Fin cfg0.N) : t.val < 180 := lt_of_lt_of_eq t.isLt (show cfg0.N = 180 from N_0)

theorem kinds (t : Fin cfg0.N) : Kinds (grid0.coords t) := by
  have hN := lt_180 t
  unfold Kinds
  rw [storesQ, storesK, storesV]
  omega

/-- The point with number `n`, or the last one below the bound. -/
def pt (n : Nat) : Fin cfg0.N := ⟨min n 179, lt_of_lt_of_eq (by omega) (show 180 = cfg0.N from N_0.symm)⟩

theorem pt_val (t : Fin cfg0.N) : pt t.val = t := Fin.ext (by have := lt_180 t; show min t.val 179 = _; omega)

/-! ## What the buffers hold -/

/-- The weight tile in its buffer after point `n`: the one made at the first point of `n`'s column block. -/
def tileAt (c : Dev nD) (n : Nat) : Vec F S5120x1024 .bf16 :=
  wtile (grid0.coords (pt (12 * (n / 12)))) (iblk m c 1 (pt (12 * (n / 12)))) (iblk m c 2 (pt (12 * (n / 12))))

/-- The block of queries computed at point `t`, -/
def qBlock (c : Dev nD) (t : Fin cfg0.N) : Vec F S512x8x128 .bf16 :=
  k0_pay4 (iblk m c 0 t) (tileAt m c t.val) (gainQ (iblk m c 3 t))
/-- the block of keys, -/
def kBlock (c : Dev nD) (t : Fin cfg0.N) : Vec F S512x8x128 .bf16 :=
  k0_pay5 (iblk m c 0 t) (tileAt m c t.val) (gainK (iblk m c 3 t))
/-- the block of values. -/
def vBlock (c : Dev nD) (t : Fin cfg0.N) : Vec F S512x8x128 .bf16 :=
  k0_pay6 (iblk m c 0 t) (tileAt m c t.val)

/-- The proof data. An output's buffer holds the last block stored into it: the queries' from point 59 on its last, the
    keys' from point 119 on its last. Between the points the weight buffer holds the tile of the point before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => qBlock m c (pt (min t.val 59))
    | ⟨5, _⟩ => kBlock m c (pt (max 60 (min t.val 119)))
    | ⟨6, _⟩ => vBlock m c (pt (max 120 t.val))
  Φ t := iprop((∃ d, ⌜t.val ≠ 0 → d = tileAt m c (t.val - 1)⌝ ∗ owns (c : Thread nD τ) (Memref.whole cc0_scratch0) fullShare d)
    ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = qBlock m c (pt (min t.val 59)) := by dsimp only [dats]
theorem after0_5 (c : Dev nD) (t : Fin cfg0.N) : (dats m 0 c).after 5 t = kBlock m c (pt (max 60 (min t.val 119))) := by dsimp only [dats]
theorem after0_6 (c : Dev nD) (t : Fin cfg0.N) : (dats m 0 c).after 6 t = vBlock m c (pt (max 120 t.val)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## Where the outputs' buffers are not stored into -/

theorem idle4 (t : Fin cfg0.N) : cfg0.idle 4 (grid0.coords t) = true ↔ ¬ t.val < 60 := by
  rw [← storesQ]; simp [idle0]
theorem idle5 (t : Fin cfg0.N) : cfg0.idle 5 (grid0.coords t) = true ↔ ¬ (60 ≤ t.val ∧ t.val < 120) := by
  rw [← storesK]; simp [idle0]
theorem idle6 (t : Fin cfg0.N) : cfg0.idle 6 (grid0.coords t) = true ↔ ¬ 120 ≤ t.val := by
  rw [← storesV]; simp [idle0]

/-- The blocks written back. -/
theorem flush4 (t : Fin cfg0.N) : (cfg0.win 4).flush t = true ↔ (t.val < 59 ∨ t.val = 179) := by
  rw [Pipeline.Window.flush_eq_flushF]
  exact (by decide +kernel : ∀ t : Fin grid0.N, win0_4.flushF t = true ↔ (t.val < 59 ∨ t.val = 179)) t
theorem flush5 (t : Fin cfg0.N) : (cfg0.win 5).flush t = true ↔ (60 ≤ t.val ∧ t.val < 119 ∨ t.val = 179) := by
  rw [Pipeline.Window.flush_eq_flushF]
  exact (by decide +kernel : ∀ t : Fin grid0.N, win0_5.flushF t = true ↔ (60 ≤ t.val ∧ t.val < 119 ∨ t.val = 179)) t
theorem flush6 (t : Fin cfg0.N) : (cfg0.win 6).flush t = true ↔ 120 ≤ t.val := by
  rw [Pipeline.Window.flush_eq_flushF]
  exact (by decide +kernel : ∀ t : Fin grid0.N, win0_6.flushF t = true ↔ 120 ≤ t.val) t

/-- From point 60 on the queries' buffer is not fresh: it holds the last block. -/
theorem fresh4 : ∀ n, 60 ≤ n → n < 180 → cfg0.fresh 4 n = false
  | 0, h, _ => by omega
  | n + 1, h, hn => by
    have hN : n < cfg0.N := lt_of_lt_of_eq (by omega) (show 180 = cfg0.N from N_0.symm)
    rw [Pipeline.Cfg.fresh_succ cfg0 4 n hN]
    have hf : (cfg0.win 4).flush ⟨n, hN⟩ = false := by
      rw [Bool.eq_false_iff, ne_eq, flush4]; show ¬ (n < 59 ∨ n = 179); omega
    rw [hf, Bool.false_or]
    by_cases h60 : n = 59
    · have hi : cfg0.idle 4 (cfg0.grid.coords ⟨n, hN⟩) = false := by
        rw [Bool.eq_false_iff, ne_eq, idle4]; show ¬ ¬ n < 60; omega
      rw [hi, Bool.false_and]
    · rw [fresh4 n (by omega) (by omega), Bool.and_false]

/-- From point 120 on the keys' buffer is not fresh. -/
theorem fresh5 : ∀ n, 120 ≤ n → n < 180 → cfg0.fresh 5 n = false
  | 0, h, _ => by omega
  | n + 1, h, hn => by
    have hN : n < cfg0.N := lt_of_lt_of_eq (by omega) (show 180 = cfg0.N from N_0.symm)
    rw [Pipeline.Cfg.fresh_succ cfg0 5 n hN]
    have hf : (cfg0.win 5).flush ⟨n, hN⟩ = false := by
      rw [Bool.eq_false_iff, ne_eq, flush5]; show ¬ (60 ≤ n ∧ n < 119 ∨ n = 179); omega
    rw [hf, Bool.false_or]
    by_cases h60 : n = 119
    · have hi : cfg0.idle 5 (cfg0.grid.coords ⟨n, hN⟩) = false := by
        rw [Bool.eq_false_iff, ne_eq, idle5]; show ¬ ¬ (60 ≤ n ∧ n < 120); omega
      rw [hi, Bool.false_and]
    · rw [fresh5 n (by omega) (by omega), Bool.and_false]

/-- At the last point the queries' buffer still holds the last block of queries; -/
theorem kept4 (c : Dev nD) (t : Fin cfg0.N) (h : 60 ≤ t.val) (d) : (dats m 0 c).before 4 t d = (dats m 0 c).after 4 t := by
  rw [(dats m 0 c).before_out_traj 4 rfl (fun _ _ => rfl) (fun s hs hi _ => ?_) t.val t rfl d,
    fresh4 t.val h (lt_180 t), if_neg Bool.false_ne_true, after0_4, after0_4]
  · show qBlock m c (pt (min (t.val - 1) 59)) = _
    rw [show min (t.val - 1) 59 = min t.val 59 by omega]
  · have hi' := (idle4 s).mp hi
    rw [after0_4, after0_4]
    show _ = qBlock m c (pt (min (s.val - 1) 59))
    rw [show min (s.val - 1) 59 = min s.val 59 by omega]

/-- and the keys' the last block of keys. -/
theorem kept5 (c : Dev nD) (t : Fin cfg0.N) (h : 120 ≤ t.val) (d) : (dats m 0 c).before 5 t d = (dats m 0 c).after 5 t := by
  rw [(dats m 0 c).before_out_traj 5 rfl (fun _ _ => rfl) (fun s hs hi _ => ?_) t.val t rfl d,
    fresh5 t.val h (lt_180 t), if_neg Bool.false_ne_true, after0_5, after0_5]
  · show kBlock m c (pt (max 60 (min (t.val - 1) 119))) = _
    rw [show max 60 (min (t.val - 1) 119) = max 60 (min t.val 119) by omega]
  · have hi' := (idle5 s).mp hi
    rw [after0_5, after0_5]
    show _ = kBlock m c (pt (max 60 (min (s.val - 1) 119)))
    rw [show max 60 (min (s.val - 1) 119) = max 60 (min s.val 119) by omega]

/-- A buffer stored into, at its block, is what the body must leave; -/
theorem leaves_stored {c : Dev nD} (dat : Dat τ (Elt F) Unit ℕ (UR sig nD τ) ℕ cfg0 c) (w : Fin cfg0.W) (t : Fin cfg0.N)
    (hi : cfg0.idle w (grid0.coords t) = false) :
    owns (c : Thread nD τ) ((cfg0.win w).stage (cfg0.slots t w)) fullShare (dat.after w t) ⊢ (dat.leavesExact w t : sProp 𝕄) := by
  unfold Dat.leavesExact
  rw [hi]

/-- so is a buffer not stored into, as found, if it holds the block wherever it is written back. -/
theorem leaves_found {c : Dev nD} (dat : Dat τ (Elt F) Unit ℕ (UR sig nD τ) ℕ cfg0 c) (w : Fin cfg0.W) (t : Fin cfg0.N)
    (hi : cfg0.idle w (grid0.coords t) = true) (d) (hk : (cfg0.win w).flush t = true → dat.before w t d = dat.after w t) :
    owns (c : Thread nD τ) ((cfg0.win w).stage (cfg0.slots t w)) fullShare (dat.before w t d) ⊢ (dat.leavesExact w t : sProp 𝕄) := by
  unfold Dat.leavesExact
  rw [hi]
  cases hf : (cfg0.win w).flush t
  · iintro H; iexists d; iexact H
  · rw [hk hf]

open Classical in
/-- What the body leaves in the queries' buffer; -/
theorem leaves4 (c : Dev nD) (t : Fin cfg0.N) (d) :
    owns (c : Thread nD τ) ((cfg0.win 4).stage (cfg0.slots t 4)) fullShare
      (if k0_cond2 (grid0.coords t) = 1#1 then qBlock m c t else (dats m 0 c).before 4 t d) ⊢ ((dats m 0 c).leavesExact 4 t : sProp 𝕄) := by
  by_cases h : t.val < 60
  · rw [if_pos ((storesQ t).mpr h)]
    have e : qBlock m c t = (dats m 0 c).after 4 t := by
      rw [after0_4, show min t.val 59 = t.val by omega, pt_val]
    rw [e]
    exact leaves_stored (dats m 0 c) 4 t (by rw [Bool.eq_false_iff, ne_eq, idle4]; omega)
  · rw [if_neg (fun h' => h ((storesQ t).mp h'))]
    exact leaves_found (dats m 0 c) 4 t ((idle4 t).mpr h) d fun _ => kept4 m c t (by omega) d

open Classical in
/-- in the keys' buffer; -/
theorem leaves5 (c : Dev nD) (t : Fin cfg0.N) (d) :
    owns (c : Thread nD τ) ((cfg0.win 5).stage (cfg0.slots t 5)) fullShare
      (if k0_cond3 (grid0.coords t) = 1#1 then kBlock m c t else (dats m 0 c).before 5 t d) ⊢ ((dats m 0 c).leavesExact 5 t : sProp 𝕄) := by
  by_cases h : 60 ≤ t.val ∧ t.val < 120
  · rw [if_pos ((storesK t).mpr h)]
    have e : kBlock m c t = (dats m 0 c).after 5 t := by
      rw [after0_5, show max 60 (min t.val 119) = t.val by omega, pt_val]
    rw [e]
    exact leaves_stored (dats m 0 c) 5 t (by rw [Bool.eq_false_iff, ne_eq, idle5]; omega)
  · rw [if_neg (fun h' => h ((storesK t).mp h'))]
    refine leaves_found (dats m 0 c) 5 t ((idle5 t).mpr h) d fun hf => kept5 m c t ?_ d
    have := (flush5 t).mp hf
    omega

open Classical in
/-- in the values' buffer. -/
theorem leaves6 (c : Dev nD) (t : Fin cfg0.N) (d) :
    owns (c : Thread nD τ) ((cfg0.win 6).stage (cfg0.slots t 6)) fullShare
      (if k0_cond4 (grid0.coords t) = 1#1 then vBlock m c t else (dats m 0 c).before 6 t d) ⊢ ((dats m 0 c).leavesExact 6 t : sProp 𝕄) := by
  by_cases h : 120 ≤ t.val
  · rw [if_pos ((storesV t).mpr h)]
    have e : vBlock m c t = (dats m 0 c).after 6 t := by
      rw [after0_6, show max 120 t.val = t.val by omega, pt_val]
    rw [e]
    exact leaves_stored (dats m 0 c) 6 t (by rw [Bool.eq_false_iff, ne_eq, idle6]; omega)
  · rw [if_neg (fun h' => h ((storesV t).mp h'))]
    exact leaves_found (dats m 0 c) 6 t ((idle6 t).mpr h) d fun hf => absurd ((flush6 t).mp hf) h

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The invariant at a point number. -/
theorem phi_eq (c : Dev nD) (t : Fin (cfg0.N + 1)) : (dats m 0 c).Φ t
    = iprop((∃ d, ⌜t.val ≠ 0 → d = tileAt m c (t.val - 1)⌝ ∗ owns (c : Thread nD τ) (Memref.whole cc0_scratch0) fullShare d)
    ∗ (∃ r, prngReg c r)) := by dsimp only [dats]

open Classical in
/-- The body on point `t`'s buffers, the weight buffer at `w`: filled first at a column block's first point, and at the
    tile already at the others. -/
theorem run_point (c : Dev nD) (t : Fin cfg0.N) (w : Vec F S5120x1024 .bf16) (hw : t.val % 12 ≠ 0 → w = tileAt m c t.val)
    (d4 d5 d6 : Vec F S512x8x128 .bf16) (K : PUnit → sProp 𝕄) :
    iprop(owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare d4 ∗ owns (c : Thread nD τ) (st0_5 t) fullShare d5 ∗ owns (c : Thread nD τ) (st0_6 t) fullShare d6
        ∗ owns (c : Thread nD τ) (Memref.whole cc0_scratch0) fullShare w
        ∗ (iprop(owns (c : Thread nD τ) (st0_0 t) fullShare (iblk m c 0 t) ∗ owns (c : Thread nD τ) (st0_1 t) fullShare (iblk m c 1 t)
            ∗ owns (c : Thread nD τ) (st0_2 t) fullShare (iblk m c 2 t) ∗ owns (c : Thread nD τ) (st0_3 t) fullShare (iblk m c 3 t)
            ∗ owns (c : Thread nD τ) (st0_4 t) fullShare (if k0_cond2 (grid0.coords t) = 1#1 then qBlock m c t else d4)
            ∗ owns (c : Thread nD τ) (st0_5 t) fullShare (if k0_cond3 (grid0.coords t) = 1#1 then kBlock m c t else d5)
            ∗ owns (c : Thread nD τ) (st0_6 t) fullShare (if k0_cond4 (grid0.coords t) = 1#1 then vBlock m c t else d6)
            ∗ owns (c : Thread nD τ) (Memref.whole cc0_scratch0) fullShare (tileAt m c t.val)) -∗ K ⟨⟩))
      ⊢ wp frame (wpE (defs₀ (F := F)) Variants.none c none) Set.univ (bodyAt0 t) K := by
  unfold bodyAt0 qBlock kBlock vBlock
  by_cases h : t.val % 12 = 0
  · have e : tileAt m c t.val = wtile (grid0.coords t) (iblk m c 1 t) (iblk m c 2 t) := by
      unfold tileAt
      rw [show 12 * (t.val / 12) = t.val by omega, pt_val]
    rw [e]
    exact run_fill c (grid0.coords t) _ _ _ _ _ _ _ _ _ _ _ _ _ _ _ _ ((fills t).mpr h) (kinds t)
      (iblk m c 0 t) (iblk m c 1 t) (iblk m c 2 t) (iblk m c 3 t) d4 d5 d6 w Set.univ K
  · obtain rfl := hw h
    exact run_use c (grid0.coords t) _ _ _ _ _ _ _ _ _ _ _ _ _ _ _ _ (fun h' => h ((fills t).mp h')) (kinds t)
      (iblk m c 0 t) (iblk m c 1 t) (iblk m c 2 t) (iblk m c 3 t) d4 d5 d6 _ Set.univ K

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3]
  rw [phi_eq, phi_eq, show (dats m 0 c).owesAt () t.succ = (dats m 0 c).owesAt () t.castSucc from rfl]
  iintro ⟨⟨⟨%w, %hw, HS⟩, Hg⟩, Ho, ⟨%d0, H0⟩, ⟨%d1, H1⟩, ⟨%d2, H2⟩, ⟨%d3, H3⟩, ⟨%d4, H4⟩, ⟨%d5, H5⟩, ⟨%d6, H6⟩⟩
  have hw' : t.val % 12 ≠ 0 → w = tileAt m c t.val := fun h => by
    rw [hw (show t.val ≠ 0 by omega)]
    show tileAt m c (t.val - 1) = _
    unfold tileAt
    rw [show (t.val - 1) / 12 = t.val / 12 by omega]
  iapply (run_point m c t w hw' ((dats m 0 c).before 4 t d4) ((dats m 0 c).before 5 t d5) ((dats m 0 c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]
    · iexists _; isplitr; swap; · iexact HS
      ipureintro; intro _; rfl
    iexact Hg
  isplitl [Ho]; · iexact Ho
  isplitl [H0]; · rw [← after0_0 m c t]; iapply (leaves_stored (dats m 0 c) 0 t rfl); iexact H0
  isplitl [H1]; · rw [← after0_1 m c t]; iapply (leaves_stored (dats m 0 c) 1 t rfl); iexact H1
  isplitl [H2]; · rw [← after0_2 m c t]; iapply (leaves_stored (dats m 0 c) 2 t rfl); iexact H2
  isplitl [H3]; · rw [← after0_3 m c t]; iapply (leaves_stored (dats m 0 c) 3 t rfl); iexact H3
  isplitl [H4]; · iapply (leaves4 m c t d4); iexact H4
  isplitl [H5]; · iapply (leaves5 m c t d5); iexact H5
  iapply (leaves6 m c t d6); iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phiA_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

theorem phi_in (c : Dev nD) : (Pipeline.ΦA spec0 c : sProp 𝕄) ⊢ (dats m 0 c).Φ 0 := by
  rw [phiA_eq, phi_eq]
  iintro ⟨⟨%d, H⟩, Hg⟩
  isplitl [H]
  · iexists d; isplitr; swap; · iexact H
    ipureintro; intro h; exact absurd rfl h
  iexact Hg

theorem phi_out (c : Dev nD) : (dats m 0 c).Φ (Fin.last cfg0.N) ⊢ (Pipeline.ΦA spec0 c : sProp 𝕄) := by
  rw [phiA_eq, phi_eq]
  iintro ⟨⟨%d, -, H⟩, Hg⟩
  isplitl [H]
  · iexists d; iexact H
  iexact Hg

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- Every run ends with the arrays at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proj.Gen

end
-- ==== Proof.ProjRun.lean ====
/-
  The projection's body at one point.
-/
module

public import proofs.«01_k».proof.Proof.Gen.ProjIdeal.Frame
public import proofs.«01_k».proof.Proof.Gen.ProjIdeal.Skeleton
public import Idealize.ShloMosaic.Lib.Pipeline.ValueKit

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three kinds of column block, by the conditions of the body's stores. -/
def Kinds (i : grid0.Coords) : Prop :=
  (k0_cond2 i = 1#1 ∧ ¬ k0_cond3 i = 1#1 ∧ ¬ k0_cond4 i = 1#1)
    ∨ (¬ k0_cond2 i = 1#1 ∧ k0_cond3 i = 1#1 ∧ ¬ k0_cond4 i = 1#1)
    ∨ (¬ k0_cond2 i = 1#1 ∧ ¬ k0_cond3 i = 1#1 ∧ k0_cond4 i = 1#1)

/-- The first row of the gains, as the body reads it; -/
def gainQ (x3 : Vec F S2x128 .bf16) : Vec F S1x128 .bf16 :=
  View.ld (Val := Elt F) (e' := .bf16) x3 (Rect.unit (s := S2x128) ![0, 0] S1x128.size inb_S2x128_S1x128_0_0)

/-- and the second. -/
def gainK (x3 : Vec F S2x128 .bf16) : Vec F S1x128 .bf16 :=
  View.ld (Val := Elt F) (e' := .bf16) x3 (Rect.unit (s := S2x128) ![1, 0] S1x128.size inb_S2x128_S1x128_1_0)

/-- A load of a whole buffer reads all of it. -/
theorem readAt_whole {κ : Kind} {sp : Space} {s : Shape} {e : EltTy} (v : View sig κ sp s e) (off : Fin s.rank → Nat)
    (inb) (h : ∀ a, off a = 0) (f : v.ty.Contents (Elt F)) :
    v.readAt (Elt F) (Rect.unit (s := s) off s.size inb).toLoadRect f = v.read (Elt F) f := by
  funext x
  exact View.ld_unit_apply_of (Val := Elt F) (v.read (Elt F) f) off s.size inb x x fun a => by rw [h a, Nat.zero_add]

/-- A store over a whole buffer leaves what was stored. -/
theorem read_store_whole {κ : Kind} {sp : Space} {s : Shape} {e : EltTy} (v : View sig κ sp s e) (off : Fin s.rank → Nat)
    (inb) (h : ∀ a, off a = 0) (f : v.ty.Contents (Elt F)) (w : (Rect.unit (s := s) off s.size inb).shape.Idx → Elt F e) :
    v.read (Elt F) (v.writes (Elt F) f [⟨Rect.unit (s := s) off s.size inb, w⟩]) = w := by
  obtain rfl : off = fun _ => 0 := funext h
  funext y
  have e : (Rect.unit (s := s) (fun _ => 0) s.size inb).emb y = y := by
    funext a; exact Fin.ext (by rw [Rect.emb_apply]; show 0 + 1 * (y a : Nat) = _; omega)
  exact (congrArg _ e.symm).trans (View.read_writes_cons_emb v f _ w [] y)

theorem zeros2 : ∀ a : Fin 2, (![0, 0] : Fin 2 → Nat) a = 0 := by decide
theorem zeros3 : ∀ a : Fin 3, (![0, 0, 0] : Fin 3 → Nat) a = 0 := by decide

open Classical in
/-- The body where the weight tile is in its buffer already. -/
theorem run_use (c : Dev nD) (i : grid0.Coords) (arg2 : Memref sig .tc .vmem S512x5120 .bf16) (harg2 : arg2.IsWhole) (arg3 : Memref sig .tc .vmem S5120x1024 .fp8e4m3) (harg3 : arg3.IsWhole) (arg4 : Memref sig .tc .smem S40x120 .f32) (harg4 : arg4.IsWhole) (arg5 : Memref sig .tc .vmem S2x128 .bf16) (harg5 : arg5.IsWhole) (arg6 : Memref sig .tc .vmem S512x8x128 .bf16) (harg6 : arg6.IsWhole) (arg7 : Memref sig .tc .vmem S512x8x128 .bf16) (harg7 : arg7.IsWhole) (arg8 : Memref sig .tc .vmem S512x8x128 .bf16) (harg8 : arg8.IsWhole) (arg9 : Memref sig .tc .vmem S5120x1024 .bf16) (harg9 : arg9.IsWhole)
    (hc0 : ¬ k0_cond1 i = 1#1) (hk : Kinds i)
    (x0 : Vec F S512x5120 .bf16) (x1 : Vec F S5120x1024 .fp8e4m3) (x2 : Vec F S40x120 .f32) (x3 : Vec F S2x128 .bf16)
    (d4 d5 d6 : Vec F S512x8x128 .bf16) (w : Vec F S5120x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d4 ∗ owns (c : Thread nD τ) arg7 fullShare d5 ∗ owns (c : Thread nD τ) arg8 fullShare d6 ∗ owns (c : Thread nD τ) arg9 fullShare w
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (if k0_cond2 i = 1#1 then k0_pay4 x0 w (gainQ x3) else d4)
            ∗ owns (c : Thread nD τ) arg7 fullShare (if k0_cond3 i = 1#1 then k0_pay5 x0 w (gainK x3) else d5)
            ∗ owns (c : Thread nD τ) arg8 fullShare (if k0_cond4 i = 1#1 then k0_pay6 x0 w else d6)
            ∗ owns (c : Thread nD τ) arg9 fullShare w) -∗ K ⟨⟩))
      ⊢ wp frame (wpE (defs₀ (F := F)) Variants.none c none) E (cc0_qkv_proj i arg2 harg2 arg3 harg3 arg4 harg4 arg5 harg5 arg6 harg6 arg7 harg7 arg8 harg8 arg9 harg9) K := by
  simp only [cc0_qkv_proj_eq_skeleton]; unfold cc0_qkv_proj_skel
  unfold owns
  rcases hk with ⟨hc1, hc2, hc3⟩ | ⟨hc1, hc2, hc3⟩ | ⟨hc1, hc2, hc3⟩
  all_goals
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    subst hf0 hf1 hf2 hf3 hf4 hf5 hf6 hf7
    sl_exec (disch := first | sl_exact hc0 | sl_exact hc1 | sl_exact hc2 | sl_exact hc3)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; swap; · iexact H4
      ipureintro
      first
        | exact (if_neg hc1).symm
        | rw [if_pos hc1, read_store_whole _ _ _ zeros3, readAt_whole _ _ _ zeros2, readAt_whole _ _ _ zeros2]; rfl
    isplitl [H5]
    · iexists _; isplitr; swap; · iexact H5
      ipureintro
      first
        | exact (if_neg hc2).symm
        | rw [if_pos hc2, read_store_whole _ _ _ zeros3, readAt_whole _ _ _ zeros2, readAt_whole _ _ _ zeros2]; rfl
    isplitl [H6]
    · iexists _; isplitr; swap; · iexact H6
      ipureintro
      first
        | exact (if_neg hc3).symm
        | rw [if_pos hc3, read_store_whole _ _ _ zeros3, readAt_whole _ _ _ zeros2, readAt_whole _ _ _ zeros2]
    iexists _; isplitr; swap; · iexact H7
    ipureintro; rfl

end Cert.ProjIdeal.Gen

end
-- ==== Proof.ProjFill.lean ====
/-
  The projection's body at one point.
-/
module

public import proofs.«01_k».proof.Proof.ProjRun
public import proofs.«01_k».proof.Proof.Gen.ProjIdeal.Skeleton

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Where the `k`-th of the 320 pieces of the weight tile lies; -/
def tileOff (k : Nat) : Fin 2 → Nat := ![128 * (k / 8), 128 * (k % 8)]

theorem tileOff_inb (k : Nat) (h : k < 320) : ∀ a : Fin 2, tileOff k a + S128x128.size a ≤ S5120x1024.size a := by
  intro a
  fin_cases a
  · show 128 * (k / 8) + 128 ≤ 5120; omega
  · show 128 * (k % 8) + 128 ≤ 1024; omega

/-- where the block's scale lies. -/
def scaleOff (i : grid0.Coords) (k : Nat) : Fin 2 → Nat :=
  ![k / 8, (Scalar.indexCast (Scalar.addi (Scalar.muli (BitVec.ofNat 32 (i 0).val) 8#32) (BitVec.ofNat 32 (k % 8)))).toNat]

theorem scaleOff_col (i : grid0.Coords) (k : Nat) : scaleOff i k 1 = 8 * (i 0).val + k % 8 := by
  have h0 : (i 0).val < 15 := (i 0).isLt
  show ((BitVec.ofNat 32 (i 0).val * 8#32 + BitVec.ofNat 32 (k % 8))).toNat = _
  rw [BitVec.toNat_add, BitVec.toNat_mul, BitVec.toNat_ofNat, BitVec.toNat_ofNat, BitVec.toNat_ofNat]
  omega

theorem scaleOff_inb (i : grid0.Coords) (k : Nat) (h : k < 320) : ∀ a : Fin 2, scaleOff i k a + S1x1.size a ≤ S40x120.size a := by
  have h0 : (i 0).val < 15 := (i 0).isLt
  intro a
  fin_cases a
  · show k / 8 + 1 ≤ 40; omega
  · show scaleOff i k 1 + 1 ≤ 120
    rw [scaleOff_col]; omega

/-- The `k`-th piece: the block of the weights times its scale. -/
def piece (i : grid0.Coords) (x1 : Vec F S5120x1024 .fp8e4m3) (x2 : Vec F S40x120 .f32) (k : Nat) (h : k < 320) :
    Vec F S128x128 .bf16 :=
  k0_pay2
    (View.ld (Val := Elt F) (e' := .f32) x2 (Rect.unit (s := S40x120) (scaleOff i k) S1x1.size (scaleOff_inb i k h))
      (Shape.Idx.first (Nat.lt_of_lt_of_eq Nat.zero_lt_one numel1_S1x1.symm)))
    (View.ld (Val := Elt F) (e' := .fp8e4m3) x1 (Rect.unit (s := S5120x1024) (tileOff k) S128x128.size (tileOff_inb k h)))

/-- The pieces in the order the buffer was written, the last first. -/
def pieces (i : grid0.Coords) (x1 : Vec F S5120x1024 .fp8e4m3) (x2 : Vec F S40x120 .f32) :
    List (View.Piece (Elt F) S5120x1024 .bf16) :=
  List.ofFn fun k : Fin 320 => (⟨Rect.unit (s := S5120x1024) (tileOff (319 - k.val)) S128x128.size (tileOff_inb _ (by omega)),
    piece i x1 x2 (319 - k.val) (by omega)⟩ : View.Piece (Elt F) S5120x1024 .bf16)

/-- The pieces cover the tile. -/
theorem pieces_cover (i : grid0.Coords) (x1 : Vec F S5120x1024 .fp8e4m3) (x2 : Vec F S40x120 .f32) (y : S5120x1024.Idx) :
    ∃ p ∈ pieces i x1 x2, y ∈ p.1.set := by
  have h0 : (y 0).val < 5120 := (y 0).isLt
  have h1 : (y 1).val < 1024 := (y 1).isLt
  have hk : 319 - ((y 0).val / 128 * 8 + (y 1).val / 128) < 320 := by omega
  refine ⟨_, (List.mem_ofFn).mpr ⟨⟨319 - ((y 0).val / 128 * 8 + (y 1).val / 128), hk⟩, rfl⟩, ?_⟩
  show y ∈ (Rect.unit (s := S5120x1024) (tileOff (319 - (319 - ((y 0).val / 128 * 8 + (y 1).val / 128)))) S128x128.size
    (tileOff_inb _ (by omega))).set
  rw [Rect.mem_set_unit]
  intro a
  fin_cases a
  · show 128 * ((319 - (319 - ((y 0).val / 128 * 8 + (y 1).val / 128))) / 8) ≤ (y 0).val ∧ (y 0).val < 128 * ((319 - (319 - ((y 0).val / 128 * 8 + (y 1).val / 128))) / 8) + 128
    omega
  · show 128 * ((319 - (319 - ((y 0).val / 128 * 8 + (y 1).val / 128))) % 8) ≤ (y 1).val ∧ (y 1).val < 128 * ((319 - (319 - ((y 0).val / 128 * 8 + (y 1).val / 128))) % 8) + 128
    omega

/-- The weight tile, dequantised. -/
def wtile (i : grid0.Coords) (x1 : Vec F S5120x1024 .fp8e4m3) (x2 : Vec F S40x120 .f32) : Vec F S5120x1024 .bf16 :=
  View.canon (Val := Elt F) (pieces i x1 x2)

/-- A load of the whole tile after the pieces were stored reads the tile. -/
theorem loaded (v : View sig .tc .vmem S5120x1024 .bf16) (i : grid0.Coords) (x1 : Vec F S5120x1024 .fp8e4m3) (x2 : Vec F S40x120 .f32) :
    v.readCov (Val := Elt F) (pieces i x1 x2) (Rect.unit (s := S5120x1024) ![0, 0] S5120x1024.size inb_S5120x1024_S5120x1024_0_0).toLoadRect
      = wtile i x1 x2 := by
  rw [View.readCov_eq_canon_ld v _ _ (pieces_cover i x1 x2)]
  funext y
  exact View.ld_unit_apply_of (Val := Elt F) (wtile i x1 x2) ![0, 0] S5120x1024.size inb_S5120x1024_S5120x1024_0_0 y y
    fun a => by rw [zeros2 a, Nat.zero_add]

open Classical in
set_option maxHeartbeats 12000000 in
/-- The body where the weight tile is made. -/
theorem run_fill (c : Dev nD) (i : grid0.Coords) (arg2 : Memref sig .tc .vmem S512x5120 .bf16) (harg2 : arg2.IsWhole) (arg3 : Memref sig .tc .vmem S5120x1024 .fp8e4m3) (harg3 : arg3.IsWhole) (arg4 : Memref sig .tc .smem S40x120 .f32) (harg4 : arg4.IsWhole) (arg5 : Memref sig .tc .vmem S2x128 .bf16) (harg5 : arg5.IsWhole) (arg6 : Memref sig .tc .vmem S512x8x128 .bf16) (harg6 : arg6.IsWhole) (arg7 : Memref sig .tc .vmem S512x8x128 .bf16) (harg7 : arg7.IsWhole) (arg8 : Memref sig .tc .vmem S512x8x128 .bf16) (harg8 : arg8.IsWhole) (arg9 : Memref sig .tc .vmem S5120x1024 .bf16) (harg9 : arg9.IsWhole)
    (hc0 : k0_cond1 i = 1#1) (hk : Kinds i)
    (x0 : Vec F S512x5120 .bf16) (x1 : Vec F S5120x1024 .fp8e4m3) (x2 : Vec F S40x120 .f32) (x3 : Vec F S2x128 .bf16)
    (d4 d5 d6 : Vec F S512x8x128 .bf16) (w : Vec F S5120x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d4 ∗ owns (c : Thread nD τ) arg7 fullShare d5 ∗ owns (c : Thread nD τ) arg8 fullShare d6 ∗ owns (c : Thread nD τ) arg9 fullShare w
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (if k0_cond2 i = 1#1 then k0_pay4 x0 (wtile i x1 x2) (gainQ x3) else d4)
            ∗ owns (c : Thread nD τ) arg7 fullShare (if k0_cond3 i = 1#1 then k0_pay5 x0 (wtile i x1 x2) (gainK x3) else d5)
            ∗ owns (c : Thread nD τ) arg8 fullShare (if k0_cond4 i = 1#1 then k0_pay6 x0 (wtile i x1 x2) else d6)
            ∗ owns (c : Thread nD τ) arg9 fullShare (wtile i x1 x2)) -∗ K ⟨⟩))
      ⊢ wp frame (wpE (defs₀ (F := F)) Variants.none c none) E (cc0_qkv_proj i arg2 harg2 arg3 harg3 arg4 harg4 arg5 harg5 arg6 harg6 arg7 harg7 arg8 harg8 arg9 harg9) K := by
  simp only [cc0_qkv_proj_eq_skeleton]; unfold cc0_qkv_proj_skel
  simp only [k0_part107_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part108_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton]
  unfold owns
  rcases hk with ⟨hc1, hc2, hc3⟩ | ⟨hc1, hc2, hc3⟩ | ⟨hc1, hc2, hc3⟩
  all_goals
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    subst hf0 hf1 hf2 hf3 hf4 hf5 hf6 hf7
    sl_exec (disch := first | sl_exact hc0 | sl_exact hc1 | sl_exact hc2 | sl_exact hc3)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; swap; · iexact H4
      ipureintro
      first
        | exact (if_neg hc1).symm
        | rw [if_pos hc1, read_store_whole _ _ _ zeros3, readAt_whole _ _ _ zeros2]
          exact congrArg (fun w => k0_pay4 (arg2.view.read (Elt F) f0) w (gainQ (arg5.view.read (Elt F) f3)))
            (loaded arg9.view i (arg3.view.read (Elt F) f1) (arg4.view.read (Elt F) f2))
    isplitl [H5]
    · iexists _; isplitr; swap; · iexact H5
      ipureintro
      first
        | exact (if_neg hc2).symm
        | rw [if_pos hc2, read_store_whole _ _ _ zeros3, readAt_whole _ _ _ zeros2]
          exact congrArg (fun w => k0_pay5 (arg2.view.read (Elt F) f0) w (gainK (arg5.view.read (Elt F) f3)))
            (loaded arg9.view i (arg3.view.read (Elt F) f1) (arg4.view.read (Elt F) f2))
    isplitl [H6]
    · iexists _; isplitr; swap; · iexact H6
      ipureintro
      first
        | exact (if_neg hc3).symm
        | rw [if_pos hc3, read_store_whole _ _ _ zeros3, readAt_whole _ _ _ zeros2]
          exact congrArg (fun w => k0_pay6 (arg2.view.read (Elt F) f0) w)
            (loaded arg9.view i (arg3.view.read (Elt F) f1) (arg4.view.read (Elt F) f2))
    iexists _; isplitr; swap; · iexact H7
    ipureintro
    exact View.read_writes_eq_canon arg9.view f7 (pieces i (arg3.view.read (Elt F) f1) (arg4.view.read (Elt F) f2)) (pieces_cover _ _ _)

end Cert.ProjIdeal.Gen

end
-- ==== Proof.ProjFrame.lean ====
/-
  The projection's frame: what the staging buffers and the weight buffer hold from point to point.
-/
module

public import proofs.«01_k».proof.Proof.ProjFill
public import proofs.«01_k».proof.Proof.Gen.ProjIdeal.Skeleton
public import Idealize.ShloMosaic.Lib.Pipeline.TableIdle

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid: point `t` is column block `t / 12` and row block `t % 12` -/

theorem fills (t : Fin cfg0.N) : k0_cond1 (grid0.coords t) = 1#1 ↔ t.val % 12 = 0 :=
  (by decide +kernel : ∀ t : Fin grid0.N, k0_cond1 (grid0.coords t) = 1#1 ↔ t.val % 12 = 0) t
theorem storesQ (t : Fin cfg0.N) : k0_cond2 (grid0.coords t) = 1#1 ↔ t.val < 60 :=
  (by decide +kernel : ∀ t : Fin grid0.N, k0_cond2 (grid0.coords t) = 1#1 ↔ t.val < 60) t
theorem storesK (t : Fin cfg0.N) : k0_cond3 (grid0.coords t) = 1#1 ↔ (60 ≤ t.val ∧ t.val < 120) :=
  (by decide +kernel : ∀ t : Fin grid0.N, k0_cond3 (grid0.coords t) = 1#1 ↔ (60 ≤ t.val ∧ t.val < 120)) t
theorem storesV (t : Fin cfg0.N) : k0_cond4 (grid0.coords t) = 1#1 ↔ 120 ≤ t.val :=
  (by decide +kernel : ∀ t : Fin grid0.N, k0_cond4 (grid0.coords t) = 1#1 ↔ 120 ≤ t.val) t

theorem lt_180 (t : Fin cfg0.N) : t.val < 180 := lt_of_lt_of_eq t.isLt (show cfg0.N = 180 from N_0)

theorem kinds (t : Fin cfg0.N) : Kinds (grid0.coords t) := by
  have hN := lt_180 t
  unfold Kinds
  rw [storesQ, storesK, storesV]
  omega

/-- The point with number `n`, or the last one below the bound. -/
def pt (n : Nat) : Fin cfg0.N := ⟨min n 179, lt_of_lt_of_eq (by omega) (show 180 = cfg0.N from N_0.symm)⟩

theorem pt_val (t : Fin cfg0.N) : pt t.val = t := Fin.ext (by have := lt_180 t; show min t.val 179 = _; omega)

/-! ## What the buffers hold -/

/-- The weight tile in its buffer after point `n`: the one made at the first point of `n`'s column block. -/
def tileAt (c : Dev nD) (n : Nat) : Vec F S5120x1024 .bf16 :=
  wtile (grid0.coords (pt (12 * (n / 12)))) (iblk m c 1 (pt (12 * (n / 12)))) (iblk m c 2 (pt (12 * (n / 12))))

/-- The block of queries computed at point `t`, -/
def qBlock (c : Dev nD) (t : Fin cfg0.N) : Vec F S512x8x128 .bf16 :=
  k0_pay4 (iblk m c 0 t) (tileAt m c t.val) (gainQ (iblk m c 3 t))
/-- the block of keys, -/
def kBlock (c : Dev nD) (t : Fin cfg0.N) : Vec F S512x8x128 .bf16 :=
  k0_pay5 (iblk m c 0 t) (tileAt m c t.val) (gainK (iblk m c 3 t))
/-- the block of values. -/
def vBlock (c : Dev nD) (t : Fin cfg0.N) : Vec F S512x8x128 .bf16 :=
  k0_pay6 (iblk m c 0 t) (tileAt m c t.val)

/-- The proof data. An output's buffer holds the last block stored into it: the queries' from point 59 on its last, the
    keys' from point 119 on its last. Between the points the weight buffer holds the tile of the point before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => qBlock m c (pt (min t.val 59))
    | ⟨5, _⟩ => kBlock m c (pt (max 60 (min t.val 119)))
    | ⟨6, _⟩ => vBlock m c (pt (max 120 t.val))
  Φ t := iprop((∃ d, ⌜t.val ≠ 0 → d = tileAt m c (t.val - 1)⌝ ∗ owns (c : Thread nD τ) (Memref.whole cc0_scratch0) fullShare d)
    ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = qBlock m c (pt (min t.val 59)) := by dsimp only [dats]
theorem after0_5 (c : Dev nD) (t : Fin cfg0.N) : (dats m 0 c).after 5 t = kBlock m c (pt (max 60 (min t.val 119))) := by dsimp only [dats]
theorem after0_6 (c : Dev nD) (t : Fin cfg0.N) : (dats m 0 c).after 6 t = vBlock m c (pt (max 120 t.val)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## Where the outputs' buffers are not stored into -/

theorem idle4 (t : Fin cfg0.N) : cfg0.idle 4 (grid0.coords t) = true ↔ ¬ t.val < 60 := by
  rw [← storesQ]; simp [idle0]
theorem idle5 (t : Fin cfg0.N) : cfg0.idle 5 (grid0.coords t) = true ↔ ¬ (60 ≤ t.val ∧ t.val < 120) := by
  rw [← storesK]; simp [idle0]
theorem idle6 (t : Fin cfg0.N) : cfg0.idle 6 (grid0.coords t) = true ↔ ¬ 120 ≤ t.val := by
  rw [← storesV]; simp [idle0]

/-- The blocks written back. -/
theorem flush4 (t : Fin cfg0.N) : (cfg0.win 4).flush t = true ↔ (t.val < 59 ∨ t.val = 179) := by
  rw [Pipeline.Window.flush_eq_flushF]
  exact (by decide +kernel : ∀ t : Fin grid0.N, win0_4.flushF t = true ↔ (t.val < 59 ∨ t.val = 179)) t
theorem flush5 (t : Fin cfg0.N) : (cfg0.win 5).flush t = true ↔ (60 ≤ t.val ∧ t.val < 119 ∨ t.val = 179) := by
  rw [Pipeline.Window.flush_eq_flushF]
  exact (by decide +kernel : ∀ t : Fin grid0.N, win0_5.flushF t = true ↔ (60 ≤ t.val ∧ t.val < 119 ∨ t.val = 179)) t
theorem flush6 (t : Fin cfg0.N) : (cfg0.win 6).flush t = true ↔ 120 ≤ t.val := by
  rw [Pipeline.Window.flush_eq_flushF]
  exact (by decide +kernel : ∀ t : Fin grid0.N, win0_6.flushF t = true ↔ 120 ≤ t.val) t

/-- From point 60 on the queries' buffer is not fresh: it holds the last block. -/
theorem fresh4 : ∀ n, 60 ≤ n → n < 180 → cfg0.fresh 4 n = false
  | 0, h, _ => by omega
  | n + 1, h, hn => by
    have hN : n < cfg0.N := lt_of_lt_of_eq (by omega) (show 180 = cfg0.N from N_0.symm)
    rw [Pipeline.Cfg.fresh_succ cfg0 4 n hN]
    have hf : (cfg0.win 4).flush ⟨n, hN⟩ = false := by
      rw [Bool.eq_false_iff, ne_eq, flush4]; show ¬ (n < 59 ∨ n = 179); omega
    rw [hf, Bool.false_or]
    by_cases h60 : n = 59
    · have hi : cfg0.idle 4 (cfg0.grid.coords ⟨n, hN⟩) = false := by
        rw [Bool.eq_false_iff, ne_eq, idle4]; show ¬ ¬ n < 60; omega
      rw [hi, Bool.false_and]
    · rw [fresh4 n (by omega) (by omega), Bool.and_false]

/-- From point 120 on the keys' buffer is not fresh. -/
theorem fresh5 : ∀ n, 120 ≤ n → n < 180 → cfg0.fresh 5 n = false
  | 0, h, _ => by omega
  | n + 1, h, hn => by
    have hN : n < cfg0.N := lt_of_lt_of_eq (by omega) (show 180 = cfg0.N from N_0.symm)
    rw [Pipeline.Cfg.fresh_succ cfg0 5 n hN]
    have hf : (cfg0.win 5).flush ⟨n, hN⟩ = false := by
      rw [Bool.eq_false_iff, ne_eq, flush5]; show ¬ (60 ≤ n ∧ n < 119 ∨ n = 179); omega
    rw [hf, Bool.false_or]
    by_cases h60 : n = 119
    · have hi : cfg0.idle 5 (cfg0.grid.coords ⟨n, hN⟩) = false := by
        rw [Bool.eq_false_iff, ne_eq, idle5]; show ¬ ¬ (60 ≤ n ∧ n < 120); omega
      rw [hi, Bool.false_and]
    · rw [fresh5 n (by omega) (by omega), Bool.and_false]

/-- At the last point the queries' buffer still holds the last block of queries; -/
theorem kept4 (c : Dev nD) (t : Fin cfg0.N) (h : 60 ≤ t.val) (d) : (dats m 0 c).before 4 t d = (dats m 0 c).after 4 t := by
  rw [(dats m 0 c).before_out_traj 4 rfl (fun _ _ => rfl) (fun s hs hi _ => ?_) t.val t rfl d,
    fresh4 t.val h (lt_180 t), if_neg Bool.false_ne_true, after0_4, after0_4]
  · show qBlock m c (pt (min (t.val - 1) 59)) = _
    rw [show min (t.val - 1) 59 = min t.val 59 by omega]
  · have hi' := (idle4 s).mp hi
    rw [after0_4, after0_4]
    show _ = qBlock m c (pt (min (s.val - 1) 59))
    rw [show min (s.val - 1) 59 = min s.val 59 by omega]

/-- and the keys' the last block of keys. -/
theorem kept5 (c : Dev nD) (t : Fin cfg0.N) (h : 120 ≤ t.val) (d) : (dats m 0 c).before 5 t d = (dats m 0 c).after 5 t := by
  rw [(dats m 0 c).before_out_traj 5 rfl (fun _ _ => rfl) (fun s hs hi _ => ?_) t.val t rfl d,
    fresh5 t.val h (lt_180 t), if_neg Bool.false_ne_true, after0_5, after0_5]
  · show kBlock m c (pt (max 60 (min (t.val - 1) 119))) = _
    rw [show max 60 (min (t.val - 1) 119) = max 60 (min t.val 119) by omega]
  · have hi' := (idle5 s).mp hi
    rw [after0_5, after0_5]
    show _ = kBlock m c (pt (max 60 (min (s.val - 1) 119)))
    rw [show max 60 (min (s.val - 1) 119) = max 60 (min s.val 119) by omega]

/-- A buffer stored into, at its block, is what the body must leave; -/
theorem leaves_stored {c : Dev nD} (dat : Dat τ (Elt F) Unit ℕ (UR sig nD τ) ℕ cfg0 c) (w : Fin cfg0.W) (t : Fin cfg0.N)
    (hi : cfg0.idle w (grid0.coords t) = false) :
    owns (c : Thread nD τ) ((cfg0.win w).stage (cfg0.slots t w)) fullShare (dat.after w t) ⊢ (dat.leavesExact w t : sProp 𝕄) := by
  unfold Dat.leavesExact
  rw [hi]

/-- so is a buffer not stored into, as found, if it holds the block wherever it is written back. -/
theorem leaves_found {c : Dev nD} (dat : Dat τ (Elt F) Unit ℕ (UR sig nD τ) ℕ cfg0 c) (w : Fin cfg0.W) (t : Fin cfg0.N)
    (hi : cfg0.idle w (grid0.coords t) = true) (d) (hk : (cfg0.win w).flush t = true → dat.before w t d = dat.after w t) :
    owns (c : Thread nD τ) ((cfg0.win w).stage (cfg0.slots t w)) fullShare (dat.before w t d) ⊢ (dat.leavesExact w t : sProp 𝕄) := by
  unfold Dat.leavesExact
  rw [hi]
  cases hf : (cfg0.win w).flush t
  · iintro H; iexists d; iexact H
  · rw [hk hf]

open Classical in
/-- What the body leaves in the queries' buffer; -/
theorem leaves4 (c : Dev nD) (t : Fin cfg0.N) (d) :
    owns (c : Thread nD τ) ((cfg0.win 4).stage (cfg0.slots t 4)) fullShare
      (if k0_cond2 (grid0.coords t) = 1#1 then qBlock m c t else (dats m 0 c).before 4 t d) ⊢ ((dats m 0 c).leavesExact 4 t : sProp 𝕄) := by
  by_cases h : t.val < 60
  · rw [if_pos ((storesQ t).mpr h)]
    have e : qBlock m c t = (dats m 0 c).after 4 t := by
      rw [after0_4, show min t.val 59 = t.val by omega, pt_val]
    rw [e]
    exact leaves_stored (dats m 0 c) 4 t (by rw [Bool.eq_false_iff, ne_eq, idle4]; omega)
  · rw [if_neg (fun h' => h ((storesQ t).mp h'))]
    exact leaves_found (dats m 0 c) 4 t ((idle4 t).mpr h) d fun _ => kept4 m c t (by omega) d

open Classical in
/-- in the keys' buffer; -/
theorem leaves5 (c : Dev nD) (t : Fin cfg0.N) (d) :
    owns (c : Thread nD τ) ((cfg0.win 5).stage (cfg0.slots t 5)) fullShare
      (if k0_cond3 (grid0.coords t) = 1#1 then kBlock m c t else (dats m 0 c).before 5 t d) ⊢ ((dats m 0 c).leavesExact 5 t : sProp 𝕄) := by
  by_cases h : 60 ≤ t.val ∧ t.val < 120
  · rw [if_pos ((storesK t).mpr h)]
    have e : kBlock m c t = (dats m 0 c).after 5 t := by
      rw [after0_5, show max 60 (min t.val 119) = t.val by omega, pt_val]
    rw [e]
    exact leaves_stored (dats m 0 c) 5 t (by rw [Bool.eq_false_iff, ne_eq, idle5]; omega)
  · rw [if_neg (fun h' => h ((storesK t).mp h'))]
    refine leaves_found (dats m 0 c) 5 t ((idle5 t).mpr h) d fun hf => kept5 m c t ?_ d
    have := (flush5 t).mp hf
    omega

open Classical in
/-- in the values' buffer. -/
theorem leaves6 (c : Dev nD) (t : Fin cfg0.N) (d) :
    owns (c : Thread nD τ) ((cfg0.win 6).stage (cfg0.slots t 6)) fullShare
      (if k0_cond4 (grid0.coords t) = 1#1 then vBlock m c t else (dats m 0 c).before 6 t d) ⊢ ((dats m 0 c).leavesExact 6 t : sProp 𝕄) := by
  by_cases h : 120 ≤ t.val
  · rw [if_pos ((storesV t).mpr h)]
    have e : vBlock m c t = (dats m 0 c).after 6 t := by
      rw [after0_6, show max 120 t.val = t.val by omega, pt_val]
    rw [e]
    exact leaves_stored (dats m 0 c) 6 t (by rw [Bool.eq_false_iff, ne_eq, idle6]; omega)
  · rw [if_neg (fun h' => h ((storesV t).mp h'))]
    exact leaves_found (dats m 0 c) 6 t ((idle6 t).mpr h) d fun hf => absurd ((flush6 t).mp hf) h

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The invariant at a point number. -/
theorem phi_eq (c : Dev nD) (t : Fin (cfg0.N + 1)) : (dats m 0 c).Φ t
    = iprop((∃ d, ⌜t.val ≠ 0 → d = tileAt m c (t.val - 1)⌝ ∗ owns (c : Thread nD τ) (Memref.whole cc0_scratch0) fullShare d)
    ∗ (∃ r, prngReg c r)) := by dsimp only [dats]

open Classical in
/-- The body on point `t`'s buffers, the weight buffer at `w`: filled first at a column block's first point, and at the
    tile already at the others. -/
theorem run_point (c : Dev nD) (t : Fin cfg0.N) (w : Vec F S5120x1024 .bf16) (hw : t.val % 12 ≠ 0 → w = tileAt m c t.val)
    (d4 d5 d6 : Vec F S512x8x128 .bf16) (K : PUnit → sProp 𝕄) :
    iprop(owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare d4 ∗ owns (c : Thread nD τ) (st0_5 t) fullShare d5 ∗ owns (c : Thread nD τ) (st0_6 t) fullShare d6
        ∗ owns (c : Thread nD τ) (Memref.whole cc0_scratch0) fullShare w
        ∗ (iprop(owns (c : Thread nD τ) (st0_0 t) fullShare (iblk m c 0 t) ∗ owns (c : Thread nD τ) (st0_1 t) fullShare (iblk m c 1 t)
            ∗ owns (c : Thread nD τ) (st0_2 t) fullShare (iblk m c 2 t) ∗ owns (c : Thread nD τ) (st0_3 t) fullShare (iblk m c 3 t)
            ∗ owns (c : Thread nD τ) (st0_4 t) fullShare (if k0_cond2 (grid0.coords t) = 1#1 then qBlock m c t else d4)
            ∗ owns (c : Thread nD τ) (st0_5 t) fullShare (if k0_cond3 (grid0.coords t) = 1#1 then kBlock m c t else d5)
            ∗ owns (c : Thread nD τ) (st0_6 t) fullShare (if k0_cond4 (grid0.coords t) = 1#1 then vBlock m c t else d6)
            ∗ owns (c : Thread nD τ) (Memref.whole cc0_scratch0) fullShare (tileAt m c t.val)) -∗ K ⟨⟩))
      ⊢ wp frame (wpE (defs₀ (F := F)) Variants.none c none) Set.univ (bodyAt0 t) K := by
  unfold bodyAt0 qBlock kBlock vBlock
  by_cases h : t.val % 12 = 0
  · have e : tileAt m c t.val = wtile (grid0.coords t) (iblk m c 1 t) (iblk m c 2 t) := by
      unfold tileAt
      rw [show 12 * (t.val / 12) = t.val by omega, pt_val]
    rw [e]
    exact run_fill c (grid0.coords t) _ _ _ _ _ _ _ _ _ _ _ _ _ _ _ _ ((fills t).mpr h) (kinds t)
      (iblk m c 0 t) (iblk m c 1 t) (iblk m c 2 t) (iblk m c 3 t) d4 d5 d6 w Set.univ K
  · obtain rfl := hw h
    exact run_use c (grid0.coords t) _ _ _ _ _ _ _ _ _ _ _ _ _ _ _ _ (fun h' => h ((fills t).mp h')) (kinds t)
      (iblk m c 0 t) (iblk m c 1 t) (iblk m c 2 t) (iblk m c 3 t) d4 d5 d6 _ Set.univ K

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3]
  rw [phi_eq, phi_eq, show (dats m 0 c).owesAt () t.succ = (dats m 0 c).owesAt () t.castSucc from rfl]
  iintro ⟨⟨⟨%w, %hw, HS⟩, Hg⟩, Ho, ⟨%d0, H0⟩, ⟨%d1, H1⟩, ⟨%d2, H2⟩, ⟨%d3, H3⟩, ⟨%d4, H4⟩, ⟨%d5, H5⟩, ⟨%d6, H6⟩⟩
  have hw' : t.val % 12 ≠ 0 → w = tileAt m c t.val := fun h => by
    rw [hw (show t.val ≠ 0 by omega)]
    show tileAt m c (t.val - 1) = _
    unfold tileAt
    rw [show (t.val - 1) / 12 = t.val / 12 by omega]
  iapply (run_point m c t w hw' ((dats m 0 c).before 4 t d4) ((dats m 0 c).before 5 t d5) ((dats m 0 c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]
    · iexists _; isplitr; swap; · iexact HS
      ipureintro; intro _; rfl
    iexact Hg
  isplitl [Ho]; · iexact Ho
  isplitl [H0]; · rw [← after0_0 m c t]; iapply (leaves_stored (dats m 0 c) 0 t rfl); iexact H0
  isplitl [H1]; · rw [← after0_1 m c t]; iapply (leaves_stored (dats m 0 c) 1 t rfl); iexact H1
  isplitl [H2]; · rw [← after0_2 m c t]; iapply (leaves_stored (dats m 0 c) 2 t rfl); iexact H2
  isplitl [H3]; · rw [← after0_3 m c t]; iapply (leaves_stored (dats m 0 c) 3 t rfl); iexact H3
  isplitl [H4]; · iapply (leaves4 m c t d4); iexact H4
  isplitl [H5]; · iapply (leaves5 m c t d5); iexact H5
  iapply (leaves6 m c t d6); iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phiA_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

theorem phi_in (c : Dev nD) : (Pipeline.ΦA spec0 c : sProp 𝕄) ⊢ (dats m 0 c).Φ 0 := by
  rw [phiA_eq, phi_eq]
  iintro ⟨⟨%d, H⟩, Hg⟩
  isplitl [H]
  · iexists d; isplitr; swap; · iexact H
    ipureintro; intro h; exact absurd rfl h
  iexact Hg

theorem phi_out (c : Dev nD) : (dats m 0 c).Φ (Fin.last cfg0.N) ⊢ (Pipeline.ΦA spec0 c : sProp 𝕄) := by
  rw [phiA_eq, phi_eq]
  iintro ⟨⟨%d, -, H⟩, Hg⟩
  isplitl [H]
  · iexists d; iexact H
  iexact Hg

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- Every run ends with the arrays at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.ProjIdeal.Gen

end
-- ==== Proof.ProjSpec.lean ====
/-
  What the projection computes, entry by entry.
-/
module

public import Idealize.ShloMosaic.Lib.Pipeline.ValueKit
public import Idealize.ShloMosaic.Lib.Pointwise
public import Idealize.ShloMosaic.PureOps.Ideal

@[expose] public section

set_option maxRecDepth 16384

noncomputable section

namespace Cert.ProjSpec

open Idealize.ShloMosaic
open scoped BigOperators

section
variable (H : FVec Ideal ⟨2, ![6144, 5120]⟩ .bf16) (W : FVec Ideal ⟨2, ![5120, 15360]⟩ .fp8e4m3) (S : FVec Ideal ⟨2, ![40, 120]⟩ .f32)

/-- A weight: its code times the scale of its 128 × 128 block. -/
def weight (k : Fin 5120) (n : Fin 15360) : EReal := W (ix2 k n) * S (ix2 ⟨k.val / 128, by omega⟩ ⟨n.val / 128, by omega⟩)

/-- A row of activations against a column of weights. -/
def dot (r : Fin 6144) (n : Fin 15360) : EReal := ∑ k : Fin 5120, H (ix2 r k) * weight W S k n

/-- Lane `l` of head `h` in the part of the columns that starts at `b`. -/
def col (b : ℕ) (hb : b ≤ 10240) (h : Fin 40) (l : Fin 128) : Fin 15360 := ⟨b + (h.val * 128 + l.val), by omega⟩

end

/-- The reciprocal root mean square of a head. -/
def rms (y : Fin 128 → EReal) : EReal :=
  Ideal.rsqrt (Ideal.div (∑ l, y l * y l) (Ideal.ofBits .f32 0x43000000#32) + Ideal.ofBits .f32 0x358637BD#32)

/-- A head normalised and multiplied by the gains. -/
def norm (y g : Fin 128 → EReal) (l : Fin 128) : EReal := y l * rms y * g l

section
variable (H : FVec Ideal ⟨2, ![6144, 5120]⟩ .bf16) (W : FVec Ideal ⟨2, ![5120, 15360]⟩ .fp8e4m3) (S : FVec Ideal ⟨2, ![40, 120]⟩ .f32)

/-- The heads of one part, normalised: the queries and the keys; -/
def normed (b : ℕ) (hb : b ≤ 10240) (g : FVec Ideal ⟨1, ![128]⟩ .bf16) : FVec Ideal ⟨3, ![6144, 40, 128]⟩ .bf16 :=
  fun y => norm (fun l => dot H W S (y 0) (col b hb (y 1) l)) (fun l => g (ix1 l)) (y 2)

/-- as they are: the values. -/
def plain (b : ℕ) (hb : b ≤ 10240) : FVec Ideal ⟨3, ![6144, 40, 128]⟩ .bf16 := fun y => dot H W S (y 0) (col b hb (y 1) (y 2))

end

end Cert.ProjSpec

end
-- ==== Proof.ProjKernel.lean ====
/-
  The projection's kernel, entry by entry: the weight tile, and what one grid point computes.
-/
module

public import proofs.«01_k».proof.Proof.ProjSpec
public import proofs.«01_k».proof.Proof.ProjFill
public import proofs.«01_k».proof.Proof.ProjRun

@[expose] public section

set_option maxRecDepth 16384

noncomputable section

namespace Cert.ProjKernel

open Idealize.ShloMosaic Idealize.ShloMosaic.TcCoe Idealize.SL.Sem
open Cert.ProjIdeal Cert.ProjIdeal.Gen

/-! ### The weight tile -/

section Tile
variable (i : grid0.Coords) (x1 : FVec Ideal S5120x1024 .fp8e4m3) (x2 : FVec Ideal S40x120 .f32)

theorem block_at (s : EReal) (b : FVec Ideal S128x128 .fp8e4m3) (p q : Fin 128) : k0_pay2 (F := Ideal) s b (ix2 p q) = b (ix2 p q) * s := by
  pointwise [k0_pay2]

/-- The scale of a weight of the tile: its block's, in the columns' block of the grid point. -/
def scaleAt (k : Fin 5120) (n : Fin 1024) : EReal :=
  x2 (ix2 ⟨k.val / 128, by omega⟩ ⟨8 * (i 0).val + n.val / 128, by have : (i 0).val < 15 := (i 0).isLt; omega⟩)

theorem piece_at (k : ℕ) (h : k < 320) (p q : Fin 128) :
    piece (F := Ideal) i x1 x2 k h (ix2 p q)
      = x1 (ix2 ⟨128 * (k / 8) + p.val, by omega⟩ ⟨128 * (k % 8) + q.val, by omega⟩)
        * scaleAt i x2 ⟨128 * (k / 8) + p.val, by omega⟩ ⟨128 * (k % 8) + q.val, by omega⟩ := by
  have h0 : (i 0).val < 15 := (i 0).isLt
  unfold Gen.piece
  rw [block_at]
  refine congrArg₂ (· * ·) ?_ ?_
  · exact View.ld_unit_apply_of (Val := Elt Ideal) (S := S5120x1024) (e := .fp8e4m3) x1 (tileOff k) S128x128.size (tileOff_inb k h) (ix2 p q)
      (ix2 ⟨128 * (k / 8) + p.val, by omega⟩ ⟨128 * (k % 8) + q.val, by omega⟩) fun a => by
        match a with
        | 0 => rfl
        | 1 => rfl
  · exact View.ld_unit_apply_of (Val := Elt Ideal) (S := S40x120) (e := .f32) x2 (scaleOff i k) S1x1.size (scaleOff_inb i k h) _
      (ix2 ⟨(128 * (k / 8) + p.val) / 128, by omega⟩ ⟨8 * (i 0).val + (128 * (k % 8) + q.val) / 128, by omega⟩) fun a => by
        match a with
        | 0 => show (128 * (k / 8) + p.val) / 128 = k / 8 + 0; omega
        | 1 => show 8 * (i 0).val + (128 * (k % 8) + q.val) / 128 = scaleOff i k 1 + 0; rw [scaleOff_col]; omega

theorem wtile_at (k : Fin 5120) (n : Fin 1024) : wtile (F := Ideal) i x1 x2 (ix2 k n) = x1 (ix2 k n) * scaleAt i x2 k n := by
  unfold wtile pieces
  refine View.canon_ofFn_unit_eq_of_forall (S := S5120x1024) (e := .bf16) (Val := Elt Ideal) (fun g : Fin 320 => tileOff (319 - g.val)) S128x128.size
    (fun g => tileOff_inb _ (by omega)) (fun g => piece i x1 x2 (319 - g.val) (by omega)) (ix2 k n) _ ?_ fun g x hx => ?_
  · refine ⟨⟨319 - (8 * (k.val / 128) + n.val / 128), by omega⟩, fun a => ?_⟩
    match a with
    | 0 => exact ⟨by show 128 * ((319 - (319 - (8 * (k.val / 128) + n.val / 128))) / 8) ≤ k.val; omega,
        by show k.val < 128 * ((319 - (319 - (8 * (k.val / 128) + n.val / 128))) / 8) + 128; omega⟩
    | 1 => exact ⟨by show 128 * ((319 - (319 - (8 * (k.val / 128) + n.val / 128))) % 8) ≤ n.val; omega,
        by show n.val < 128 * ((319 - (319 - (8 * (k.val / 128) + n.val / 128))) % 8) + 128; omega⟩
  · have hk : k.val = 128 * ((319 - g.val) / 8) + (x 0 : ℕ) := hx 0
    have hn : n.val = 128 * ((319 - g.val) % 8) + (x 1 : ℕ) := hx 1
    have h0 : (x 0 : ℕ) < 128 := (x 0).isLt
    have h1 : (x 1 : ℕ) < 128 := (x 1).isLt
    have hx' : x = ix2 (x 0) (x 1) := (ix2_eta x).symm
    rw [hx']
    refine (piece_at i x1 x2 (319 - g.val) (by omega) (x 0) (x 1)).trans ?_
    have ek : (⟨128 * ((319 - g.val) / 8) + (x 0 : ℕ), by omega⟩ : Fin 5120) = k := Fin.ext hk.symm
    have en : (⟨128 * ((319 - g.val) % 8) + (x 1 : ℕ), by omega⟩ : Fin 1024) = n := Fin.ext hn.symm
    rw [ek, en]

end Tile

/-! ### One block of rows against one tile -/

section Block
variable (x : FVec Ideal S512x5120 .bf16) (w : FVec Ideal S5120x1024 .bf16) (g : FVec Ideal S1x128 .bf16)

/-- The products of one row and the columns of one head of the tile. -/
def head (r : Fin 512) (h : Fin 8) (l : Fin 128) : EReal := ∑ k : Fin 5120, x (ix2 r k) * w (ix2 k ⟨h.val * 128 + l.val, by omega⟩)

theorem dot_at (r : Fin 512) (h : Fin 8) (l : Fin 128) : k0_pay3 (F := Ideal) x w (ix3 r h l) = head x w r h l := by
  pointwise [k0_pay3]
  rfl

theorem q_at (r : Fin 512) (h : Fin 8) (l : Fin 128) :
    k0_pay4 (F := Ideal) x w g (ix3 r h l) = ProjSpec.norm (head x w r h) (fun l => g (ix2 0 l)) l := by
  pointwise [k0_pay4]
  simp only [dot_at]
  rfl

theorem k_at (r : Fin 512) (h : Fin 8) (l : Fin 128) :
    k0_pay5 (F := Ideal) x w g (ix3 r h l) = ProjSpec.norm (head x w r h) (fun l => g (ix2 0 l)) l := q_at x w g r h l

theorem v_at (r : Fin 512) (h : Fin 8) (l : Fin 128) : k0_pay6 (F := Ideal) x w (ix3 r h l) = head x w r h l := dot_at x w r h l

end Block

theorem gainQ_at (x3 : FVec Ideal S2x128 .bf16) (l : Fin 128) : gainQ (F := Ideal) x3 (ix2 0 l) = x3 (ix2 0 l) :=
  View.ld_unit_apply_of (Val := Elt Ideal) (S := S2x128) (e := .bf16) x3 ![0, 0] S1x128.size _ (ix2 0 l) (ix2 0 l) fun a => by
    match a with
    | 0 => rfl
    | 1 => exact (Nat.zero_add l.val).symm

theorem gainK_at (x3 : FVec Ideal S2x128 .bf16) (l : Fin 128) : gainK (F := Ideal) x3 (ix2 0 l) = x3 (ix2 1 l) :=
  View.ld_unit_apply_of (Val := Elt Ideal) (S := S2x128) (e := .bf16) x3 ![1, 0] S1x128.size _ (ix2 0 l) (ix2 1 l) fun a => by
    match a with
    | 0 => rfl
    | 1 => exact (Nat.zero_add l.val).symm

end Cert.ProjKernel

end
-- ==== Proof.ProjFinal.lean ====
/-
  The projection's result arrays.
-/
module

public import proofs.«01_k».proof.Proof.ProjKernel
public import proofs.«01_k».proof.Proof.ProjFrame
public import Idealize.ShloMosaic.Lib.Claim

@[expose] public section

set_option maxRecDepth 16384

noncomputable section

namespace Cert.ProjFinal

open Idealize.ShloMosaic Idealize.ShloMosaic.TcCoe Idealize.SL.Sem
open Cert.ProjIdeal Cert.ProjIdeal.Gen

variable (m : (ℓ : Loc nD τ sig) → Buf (Elt Ideal) ℓ) (c : Dev nD)

/-- The arguments. -/
abbrev argH : FVec Ideal S6144x5120 .bf16 := m ((c : Thread nD τ).loc main_arg0)
abbrev argW : FVec Ideal S5120x15360 .fp8e4m3 := m ((c : Thread nD τ).loc main_arg1)
abbrev argS : FVec Ideal S40x120 .f32 := m ((c : Thread nD τ).loc main_arg2)
abbrev argQ : FVec Ideal S128 .bf16 := m ((c : Thread nD τ).loc main_arg3)
abbrev argK : FVec Ideal S128 .bf16 := m ((c : Thread nD τ).loc main_arg4)

/-! ### The input blocks -/

theorem idxIn : ∀ t : Fin cfg0.N, win0_0.index t = ![t.val % 12, 0] ∧ win0_1.index t = ![0, t.val / 12] ∧ win0_2.index t = ![0, 0]
    ∧ win0_3.index t = ![0, 0] := (by decide +kernel : ∀ t : Fin grid0.N, _)

theorem column (t : Fin cfg0.N) : (grid0.coords t 0).val = t.val / 12 :=
  (by decide +kernel : ∀ t : Fin grid0.N, (grid0.coords t 0).val = t.val / 12) t

/-- The two rows of gains, as the kernel reads them. -/
abbrev gains (q k : FVec Ideal S128 .bf16) : FVec Ideal S2x128 .bf16 :=
  concatenate S2x128 0 [⟨S1x128, broadcastInDim S1x128 ![1] Gen.facts.bcast_S128_S1x128_1 q⟩,
    ⟨S1x128, broadcastInDim S1x128 ![1] Gen.facts.bcast_S128_S1x128_1 k⟩] Gen.facts.concatenates_S1x128_S1x128_S2x128_d0

theorem gains_first (q k : FVec Ideal S128 .bf16) (l : Fin 128) : gains q k (ix2 0 l) = q (ix1 l) := by
  pointwise [gains]

theorem gains_second (q k : FVec Ideal S128 .bf16) (l : Fin 128) : gains q k (ix2 1 l) = k (ix1 l) := by
  pointwise [gains]

theorem entry3 : V m c main_v2 = gains (argQ m c) (argK m c) := by entry_read; rfl

theorem blk0 (t : Fin cfg0.N) (r : Fin 512) (k : Fin 5120) :
    (iblk m c 0 t : FVec Ideal S512x5120 .bf16) (ix2 r k) = argH m c (ix2 ⟨512 * (t.val % 12) + r.val, by omega⟩ k) := by
  refine Eq.trans ?_ (congrFun (V_main_arg0 m c) _)
  blk_ext! [iblk, idxIn t]

theorem blk1 (t : Fin cfg0.N) (k : Fin 5120) (n : Fin 1024) :
    (iblk m c 1 t : FVec Ideal S5120x1024 .fp8e4m3) (ix2 k n)
      = argW m c (ix2 k ⟨1024 * (t.val / 12) + n.val, by have := lt_180 t; omega⟩) := by
  refine Eq.trans ?_ (congrFun (V_main_arg1 m c) _)
  blk_ext! [iblk, idxIn t]

theorem blk2 (t : Fin cfg0.N) : iblk m c 2 t = argS m c := by
  refine Eq.trans ?_ (V_main_arg2 m c)
  blk_ext! [iblk, idxIn t]

theorem blk3 (t : Fin cfg0.N) : iblk m c 3 t = gains (argQ m c) (argK m c) := by
  rw [← entry3]
  blk_ext! [iblk, idxIn t]

/-! ### One point's products -/

theorem tile_at (t : Fin cfg0.N) (k : Fin 5120) (n : Fin 1024) :
    tileAt m c t.val (ix2 k n) = ProjSpec.weight (argW m c) (argS m c) k ⟨1024 * (t.val / 12) + n.val, by have := lt_180 t; omega⟩ := by
  have ht := lt_180 t
  have hp : (pt (12 * (t.val / 12))).val = 12 * (t.val / 12) := by show min _ 179 = _; omega
  unfold tileAt
  refine (ProjKernel.wtile_at _ _ _ k n).trans ?_
  unfold ProjKernel.scaleAt ProjSpec.weight
  rw [blk1, blk2]
  refine congrArg₂ (fun (a : Fin 15360) (b : Fin 120) => argW m c (ix2 k a) * argS m c (ix2 ⟨k.val / 128, by omega⟩ b)) (Fin.ext ?_) (Fin.ext ?_)
  · show 1024 * ((pt (12 * (t.val / 12))).val / 12) + n.val = 1024 * (t.val / 12) + n.val
    omega
  · show 8 * (grid0.coords (pt (12 * (t.val / 12))) 0).val + n.val / 128 = (1024 * (t.val / 12) + n.val) / 128
    rw [column]
    omega

/-- A row of a point's block against a column of its tile, as a row and a column of the arguments. -/
theorem head_at (t : Fin cfg0.N) (r : Fin 512) (h : Fin 8) (l : Fin 128) (b : ℕ) (hb : b ≤ 10240) (r' : Fin 6144) (h' : Fin 40)
    (er : r'.val = (t.val % 12) * 512 + r.val) (eh : b + h'.val * 128 = 1024 * (t.val / 12) + h.val * 128) :
    ProjKernel.head (iblk m c 0 t) (tileAt m c t.val) r h l = ProjSpec.dot (argH m c) (argW m c) (argS m c) r' (ProjSpec.col b hb h' l) := by
  have ht := lt_180 t
  unfold ProjKernel.head ProjSpec.dot
  refine Finset.sum_congr rfl fun k _ => ?_
  refine congrArg₂ (· * ·) ((blk0 m c t r k).trans ?_) ((tile_at m c t k _).trans ?_)
  · exact congrArg (fun a => argH m c (ix2 a k)) (Fin.ext (by show 512 * (t.val % 12) + r.val = r'.val; omega))
  · exact congrArg (ProjSpec.weight (argW m c) (argS m c) k)
      (Fin.ext (by show 1024 * (t.val / 12) + (h.val * 128 + l.val) = b + (h'.val * 128 + l.val); omega))

/-! ### The output blocks -/

theorem idxOut : ∀ t : Fin cfg0.N, win0_4.index t = ![min t.val 59 % 12, min t.val 59 / 12, 0]
    ∧ win0_5.index t = ![max 60 (min t.val 119) % 12, max 60 (min t.val 119) / 12 - 5, 0]
    ∧ win0_6.index t = ![max 120 t.val % 12, max 120 t.val / 12 - 10, 0] := (by decide +kernel : ∀ t : Fin grid0.N, _)

theorem place4 (t : Fin cfg0.N) (y : S512x8x128.Idx) : ((win0_4.blk t).view.emb y 0 : ℕ) = (min t.val 59 % 12) * 512 + (y 0 : ℕ)
    ∧ ((win0_4.blk t).view.emb y 1 : ℕ) = (min t.val 59 / 12) * 8 + (y 1 : ℕ) ∧ ((win0_4.blk t).view.emb y 2 : ℕ) = (y 2 : ℕ) := by
  refine ⟨?_, ?_, ?_⟩ <;> blk_simp [idxOut t]

theorem place5 (t : Fin cfg0.N) (y : S512x8x128.Idx) : ((win0_5.blk t).view.emb y 0 : ℕ) = (max 60 (min t.val 119) % 12) * 512 + (y 0 : ℕ)
    ∧ ((win0_5.blk t).view.emb y 1 : ℕ) = (max 60 (min t.val 119) / 12 - 5) * 8 + (y 1 : ℕ) ∧ ((win0_5.blk t).view.emb y 2 : ℕ) = (y 2 : ℕ) := by
  refine ⟨?_, ?_, ?_⟩ <;> blk_simp [idxOut t]

theorem place6 (t : Fin cfg0.N) (y : S512x8x128.Idx) : ((win0_6.blk t).view.emb y 0 : ℕ) = (max 120 t.val % 12) * 512 + (y 0 : ℕ)
    ∧ ((win0_6.blk t).view.emb y 1 : ℕ) = (max 120 t.val / 12 - 10) * 8 + (y 1 : ℕ) ∧ ((win0_6.blk t).view.emb y 2 : ℕ) = (y 2 : ℕ) := by
  refine ⟨?_, ?_, ?_⟩ <;> blk_simp [idxOut t]

/-- A point's block of normalised heads is a block of the array of them, -/
theorem normed_block (t : Fin cfg0.N) (b : ℕ) (hb : b ≤ 10240) (g : FVec Ideal S128 .bf16) (y : S512x8x128.Idx) (z : S6144x40x128.Idx)
    (e0 : (z 0 : ℕ) = (t.val % 12) * 512 + (y 0 : ℕ)) (e1 : b + (z 1 : ℕ) * 128 = 1024 * (t.val / 12) + (y 1 : ℕ) * 128)
    (e2 : (z 2 : ℕ) = (y 2 : ℕ)) :
    ProjSpec.norm (ProjKernel.head (iblk m c 0 t) (tileAt m c t.val) (y 0) (y 1)) (fun l => g (ix1 l)) (y 2)
      = ProjSpec.normed (argH m c) (argW m c) (argS m c) b hb g z := by
  have h2 : y 2 = z 2 := Fin.ext e2.symm
  unfold ProjSpec.normed
  rw [show ProjKernel.head (iblk m c 0 t) (tileAt m c t.val) (y 0) (y 1) = fun l => ProjSpec.dot (argH m c) (argW m c) (argS m c) (z 0) (ProjSpec.col b hb (z 1) l)
    from funext fun l => head_at m c t (y 0) (y 1) l b hb (z 0) (z 1) e0 e1, h2]

/-- and its block of plain heads one of the array of those. -/
theorem plain_block (t : Fin cfg0.N) (b : ℕ) (hb : b ≤ 10240) (y : S512x8x128.Idx) (z : S6144x40x128.Idx)
    (e0 : (z 0 : ℕ) = (t.val % 12) * 512 + (y 0 : ℕ)) (e1 : b + (z 1 : ℕ) * 128 = 1024 * (t.val / 12) + (y 1 : ℕ) * 128)
    (e2 : (z 2 : ℕ) = (y 2 : ℕ)) :
    ProjKernel.head (iblk m c 0 t) (tileAt m c t.val) (y 0) (y 1) (y 2) = ProjSpec.plain (argH m c) (argW m c) (argS m c) b hb z := by
  have h2 : y 2 = z 2 := Fin.ext e2.symm
  unfold ProjSpec.plain
  rw [head_at m c t (y 0) (y 1) (y 2) b hb (z 0) (z 1) e0 e1, h2]

theorem pt_of_lt (n : ℕ) (h : n < 180) : (pt n).val = n := by show min n 179 = n; omega

theorem q_final : (dats m 0 c).arrAt 4 cfg0.N = ProjSpec.normed (argH m c) (argW m c) (argS m c) 0 (by omega) (argQ m c) := by
  refine (dats m 0 c).arrAt_eq_of_covers 4 _ (by decide +kernel) fun t hf y => ?_
  blk_simp
  rw [after0_4]
  obtain ⟨e0, e1, e2⟩ := place4 t y
  have hp := pt_of_lt (min t.val 59) (by omega)
  refine Eq.trans ?_ (normed_block m c (pt (min t.val 59)) 0 (by omega) (argQ m c) y _ (by rw [hp]; exact e0) (by rw [hp]; omega) e2)
  unfold qBlock
  rw [show y = ix3 (y 0) (y 1) (y 2) from (ix3_eta y).symm]
  refine (ProjKernel.q_at _ _ _ (y 0) (y 1) (y 2)).trans ?_
  simp only [ProjKernel.gainQ_at, blk3, gains_first]
  rfl

theorem k_final : (dats m 0 c).arrAt 5 cfg0.N = ProjSpec.normed (argH m c) (argW m c) (argS m c) 5120 (by omega) (argK m c) := by
  refine (dats m 0 c).arrAt_eq_of_covers 5 _ (by decide +kernel) fun t hf y => ?_
  blk_simp
  rw [after0_5]
  obtain ⟨e0, e1, e2⟩ := place5 t y
  have hp := pt_of_lt (max 60 (min t.val 119)) (by omega)
  refine Eq.trans ?_ (normed_block m c (pt (max 60 (min t.val 119))) 5120 (by omega) (argK m c) y _ (by rw [hp]; exact e0) (by rw [hp]; omega) e2)
  unfold kBlock
  rw [show y = ix3 (y 0) (y 1) (y 2) from (ix3_eta y).symm]
  refine (ProjKernel.k_at _ _ _ (y 0) (y 1) (y 2)).trans ?_
  simp only [ProjKernel.gainK_at, blk3, gains_second]
  rfl

theorem v_final : (dats m 0 c).arrAt 6 cfg0.N = ProjSpec.plain (argH m c) (argW m c) (argS m c) 10240 (by omega) := by
  refine (dats m 0 c).arrAt_eq_of_covers 6 _ (by decide +kernel) fun t hf y => ?_
  blk_simp
  rw [after0_6]
  obtain ⟨e0, e1, e2⟩ := place6 t y
  have ht := lt_180 t
  have hp := pt_of_lt (max 120 t.val) (by omega)
  refine Eq.trans ?_ (plain_block m c (pt (max 120 t.val)) 10240 (by omega) y _ (by rw [hp]; exact e0) (by rw [hp]; omega) e2)
  unfold vBlock
  rw [show y = ix3 (y 0) (y 1) (y 2) from (ix3_eta y).symm]
  exact ProjKernel.v_at _ _ (y 0) (y 1) (y 2)

/-- The run, its results named. -/
theorem run (g : Dev nD → PrngReg) : θ_run defs (onTc (τ := τ) (main (F := Ideal))) ⟨m, fun _ => 0, g⟩ fun r => ∀ c : Dev nD,
      r.2.mem ((c : Thread nD τ).loc main_v3_0) = ProjSpec.normed (argH m c) (argW m c) (argS m c) 0 (by omega) (argQ m c)
      ∧ r.2.mem ((c : Thread nD τ).loc main_v3_1) = ProjSpec.normed (argH m c) (argW m c) (argS m c) 5120 (by omega) (argK m c)
      ∧ r.2.mem ((c : Thread nD τ).loc main_v3_2) = ProjSpec.plain (argH m c) (argW m c) (argS m c) 10240 (by omega)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 4).trans (q_final m c), ((h c).1 5).trans (k_final m c), ((h c).1 6).trans (v_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m g)

end Cert.ProjFinal

end
-- ==== Proof.ProjRef.lean ====
/-
  The projection's reference, entry by entry.
-/
module

public import proofs.«01_k».proof.Proof.ProjSpec
public import proofs.«01_k».proof.Proof.Gen.ProjRefIdeal.Frame
public import Idealize.ShloMosaic.Lib.Claim
public import Idealize.ShloMosaic.Lib.Pipeline.ValueKit

@[expose] public section

set_option maxRecDepth 16384

noncomputable section

namespace Cert.ProjRef

open Idealize.ShloMosaic Idealize.ShloMosaic.TcCoe Idealize.SL.Sem
open Cert.ProjRefIdeal Cert.ProjRefIdeal.Gen

/-- The weights as the reference makes them. -/
def weights (w : FVec Ideal S5120x15360 .fp8e4m3) (s : FVec Ideal S40x120 .f32) : FVec Ideal S5120x15360 .bf16 :=
  shapeCast S5120x15360 (mulf (shapeCast S40x128x120x128 (extf .bf16 w bitsLt_fp8e4m3_bf16) shapeCasts_S5120x15360_S40x128x120x128)
    (broadcastTo S40x128x120x128 (shapeCast S40x1x120x1 (truncf .bf16 s bitsLt_bf16_f32) shapeCasts_S40x120_S40x1x120x1)
      broadcasts_S40x1x120x1_S40x128x120x128)) shapeCasts_S40x128x120x128_S5120x15360

theorem pay3_eq (w : FVec Ideal S5120x15360 .fp8e4m3) (s : FVec Ideal S40x120 .f32) (x : FVec Ideal S6144x5120 .bf16) :
    k0_pay3 w s x = matmul dot_S6144x5120_S5120x15360_S6144x15360_1_0_0_1_n_n none x (weights w s) (constant S6144x15360 .f32 0x00000000#32) := rfl

variable (w : FVec Ideal S5120x15360 .fp8e4m3) (s : FVec Ideal S40x120 .f32) (x : FVec Ideal S6144x5120 .bf16)

theorem weights_at (k : Fin 5120) (n : Fin 15360) : weights w s (ix2 k n) = ProjSpec.weight w s k n := by
  pointwise [weights]
  rfl

theorem dot_at (r : Fin 6144) (n : Fin 15360) : k0_pay3 (F := Ideal) w s x (ix2 r n) = ProjSpec.dot x w s r n := by
  rw [pay3_eq]
  pointwise
  simp only [weights_at]
  rfl

/-! ### The three parts -/

variable (g : FVec Ideal S1x128 .bf16)

theorem first_at (r : Fin 6144) (h : Fin 40) (l : Fin 128) :
    k0_pay6 (F := Ideal) w s x g (ix3 r h l)
      = ProjSpec.norm (fun l => ProjSpec.dot x w s r (ProjSpec.col 0 (by omega) h l)) (fun l => g (ix2 0 l)) l := by
  pointwise [k0_pay6]
  simp only [dot_at]
  have e (l : Fin 128) : (⟨h.val * 128 + l.val, by omega⟩ : Fin 15360) = ProjSpec.col 0 (by omega) h l := Fin.ext (Nat.zero_add _).symm
  simp only [e]
  rfl

theorem second_at (r : Fin 6144) (h : Fin 40) (l : Fin 128) : k0_pay4 (F := Ideal) w s x (ix3 r h l) = ProjSpec.dot x w s r (ProjSpec.col 5120 (by omega) h l) := by
  pointwise [k0_pay4]
  exact dot_at w s x _ _

theorem third_at (r : Fin 6144) (h : Fin 40) (l : Fin 128) :
    k0_pay2 (F := Ideal) (k0_pay5 w s x) (ix3 r h l) = ProjSpec.dot x w s r (ProjSpec.col 10240 (by omega) h l) := by
  pointwise [k0_pay2, k0_pay5]
  exact dot_at w s x _ _

theorem second_normed_at (r : Fin 6144) (h : Fin 40) (l : Fin 128) :
    k0_pay1 (F := Ideal) (k0_pay4 w s x) (k0_pay7 g) (k0_pay8 w s x) (ix3 r h l)
      = ProjSpec.norm (fun l => ProjSpec.dot x w s r (ProjSpec.col 5120 (by omega) h l)) (fun l => g (ix2 0 l)) l := by
  pointwise [k0_pay1, k0_pay7, k0_pay8]
  simp only [second_at]
  rfl

/-! ### The result arrays -/

section Final
variable (m : (ℓ : Loc nD τ sig) → Buf (Elt Ideal) ℓ) (c : Dev nD)

/-- The arguments. -/
abbrev argH : FVec Ideal S6144x5120 .bf16 := m ((c : Thread nD τ).loc main_arg0)
abbrev argW : FVec Ideal S5120x15360 .fp8e4m3 := m ((c : Thread nD τ).loc main_arg1)
abbrev argS : FVec Ideal S40x120 .f32 := m ((c : Thread nD τ).loc main_arg2)
abbrev argQ : FVec Ideal S128 .bf16 := m ((c : Thread nD τ).loc main_arg3)
abbrev argK : FVec Ideal S128 .bf16 := m ((c : Thread nD τ).loc main_arg4)

theorem row_at (g : FVec Ideal S128 .bf16) (l : Fin 128) : shapeCast S1x128 g Gen.facts.shapeCasts_S128_S1x128 (ix2 0 l) = g (ix1 l) := by
  pointwise

theorem entry3 : V m c main_v0 = shapeCast S1x128 (argQ m c) Gen.facts.shapeCasts_S128_S1x128 := by entry_read; rfl
theorem entry4 : V m c main_v1 = shapeCast S1x128 (argK m c) Gen.facts.shapeCasts_S128_S1x128 := by entry_read; rfl

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0, 0] ∧ win0_6.index t = ![0, 0, 0] ∧ win0_7.index t = ![0, 0, 0] :=
  (by decide +kernel : ∀ t : Fin grid0.N, _)

theorem blk0 : iblk m c 0 t0_0 = argH m c := by
  refine Eq.trans ?_ (V_main_arg0 m c)
  blk_ext! [iblk, idx t0_0]
theorem blk1 : iblk m c 1 t0_0 = argW m c := by
  refine Eq.trans ?_ (V_main_arg1 m c)
  blk_ext! [iblk, idx t0_0]
theorem blk2 : iblk m c 2 t0_0 = argS m c := by
  refine Eq.trans ?_ (V_main_arg2 m c)
  blk_ext! [iblk, idx t0_0]
theorem blk3 : iblk m c 3 t0_0 = shapeCast S1x128 (argQ m c) Gen.facts.shapeCasts_S128_S1x128 := by
  rw [← entry3]
  blk_ext! [iblk, idx t0_0]
theorem blk4 : iblk m c 4 t0_0 = shapeCast S1x128 (argK m c) Gen.facts.shapeCasts_S128_S1x128 := by
  rw [← entry4]
  blk_ext! [iblk, idx t0_0]

theorem zeros2 : (![0, 0] : Fin 2 → ℕ) = fun _ => 0 := funext fun a => by match a with | 0 => rfl | 1 => rfl
theorem ld0 (a : Vec Ideal S5120x15360 .fp8e4m3) : View.ld a r0_0 = a := View.ld_unit_zero zeros2 _ _
theorem ld1 (a : Vec Ideal S40x120 .f32) : View.ld a r0_1 = a := View.ld_unit_zero zeros2 _ _
theorem ld2 (a : Vec Ideal S6144x5120 .bf16) : View.ld a r0_2 = a := View.ld_unit_zero zeros2 _ _
theorem ld3 (a : Vec Ideal S1x128 .bf16) : View.ld a r0_3 = a := View.ld_unit_zero zeros2 _ _

theorem q_final : (dats m 0 c).arrAt 5 cfg0.N = ProjSpec.normed (argH m c) (argW m c) (argS m c) 0 (by omega) (argQ m c) := by
  refine (dats m 0 c).arrAt_eq_of_after_last 5 t0_0 (by decide +kernel) _ fun j => ?_
  blk_simp
  rw [after0_5, blk0, blk1, blk2, blk3]
  frame_out
  rw [show j = ix3 (j 0) (j 1) (j 2) from (ix3_eta j).symm]
  refine (first_at (argW m c) (argS m c) (argH m c) _ (j 0) (j 1) (j 2)).trans ?_
  simp only [row_at]
  rfl

theorem k_final : (dats m 0 c).arrAt 6 cfg0.N = ProjSpec.normed (argH m c) (argW m c) (argS m c) 5120 (by omega) (argK m c) := by
  refine (dats m 0 c).arrAt_eq_of_after_last 6 t0_0 (by decide +kernel) _ fun j => ?_
  blk_simp
  rw [after0_6, blk0, blk1, blk2, blk4]
  frame_out
  rw [show j = ix3 (j 0) (j 1) (j 2) from (ix3_eta j).symm]
  refine (second_normed_at (argW m c) (argS m c) (argH m c) _ (j 0) (j 1) (j 2)).trans ?_
  simp only [row_at]
  rfl

theorem v_final : (dats m 0 c).arrAt 7 cfg0.N = ProjSpec.plain (argH m c) (argW m c) (argS m c) 10240 (by omega) := by
  refine (dats m 0 c).arrAt_eq_of_after_last 7 t0_0 (by decide +kernel) _ fun j => ?_
  blk_simp
  rw [after0_7, blk0, blk1, blk2]
  frame_out
  rw [show j = ix3 (j 0) (j 1) (j 2) from (ix3_eta j).symm]
  exact third_at (argW m c) (argS m c) (argH m c) (j 0) (j 1) (j 2)

/-- The run, its results named. -/
theorem run (g : Dev nD → PrngReg) : θ_run defs (onTc (τ := τ) (main (F := Ideal))) ⟨m, fun _ => 0, g⟩ fun r => ∀ c : Dev nD,
      r.2.mem ((c : Thread nD τ).loc main_v2_0) = ProjSpec.normed (argH m c) (argW m c) (argS m c) 0 (by omega) (argQ m c)
      ∧ r.2.mem ((c : Thread nD τ).loc main_v2_1) = ProjSpec.normed (argH m c) (argW m c) (argS m c) 5120 (by omega) (argK m c)
      ∧ r.2.mem ((c : Thread nD τ).loc main_v2_2) = ProjSpec.plain (argH m c) (argW m c) (argS m c) 10240 (by omega)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (q_final m c), ((h c).1 6).trans (k_final m c), ((h c).1 7).trans (v_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m g)

end Final

end Cert.ProjRef

end
-- ==== Proof.ProjClaim.lean ====
/-
  The projection's algebraic claim.
-/
module

public import proofs.«01_k».proof.Defs
public import proofs.«01_k».proof.Proof.ProjFinal
public import proofs.«01_k».proof.Proof.ProjRef

@[expose] public section

set_option maxRecDepth 16384

noncomputable section

open Idealize.ShloMosaic Idealize.ShloMosaic.TcCoe Idealize.SL.Sem

namespace Cert.Proof

theorem algebraic_proj : Cert.algebraic_ProjIdeal_ProjRefIdeal := by
  pair_intro
  · run_from Cert.ProjFinal.run m g
  · run_from Cert.ProjRef.run m' g'

end Cert.Proof

end
-- ==== Proof.QuantGroup.lean ====
/-
  The quantiser's kernel, group by group: the body repeats one computation for forty groups of 128 columns, and every
  store's payload is that one computation on the group's own columns.
-/
module

public import proofs.«01_k».proof.Proof.Gen.QuantIdeal.Frame
public import Idealize.ShloMosaic.Lib.Pipeline.ValueKit

@[expose] public section

set_option maxRecDepth 16384

noncomputable section

namespace Cert.QuantGroup

open Idealize.ShloMosaic Idealize.ShloMosaic.TcCoe Idealize.SL.Sem
open Cert.QuantIdeal Cert.QuantIdeal.Gen

variable {F : FTy → Type} [FloatOps F]

/-- The normalised rows of one group: the rows, their reciprocal root mean squares and the group's gains multiplied. -/
def hidden (r : FVec F S128x1 .f32) (x : Vec F S128x128 .bf16) (w : Vec F S1x128 .bf16) : FVec F S128x128 .f32 := k0_pay15 r x w

/-- The number whose exponent scales the group: the largest magnitude divided by 448. -/
def peak (r : FVec F S128x1 .f32) (x : Vec F S128x128 .bf16) (w : Vec F S1x128 .bf16) : FVec F S128x1 .f32 :=
  mulf (shapeCast S128x1 (multiReduction .maximumf [1] S128 (absf (hidden r x w)) 0xFF800000#32 reduces_S128x128_S128 (.inl rfl) rfl) shapeCasts_S128_S128x1)
    (broadcast S128x1 (Scalar.ofBits .f32 0x3B124925#32))

/-- One step of the search for the exponent's bits. -/
def bit (y : FVec F S128x1 .f32) (b : IVec S128x1 32) (k : BitVec 32) : IVec S128x1 32 :=
  select (cmpf .olt y (bitcastToFloat .f32 (shli (ori b (broadcast S128x1 k)) (broadcast S128x1 23#32)))) b (ori b (broadcast S128x1 k))

/-- The biased exponent found by the search. -/
def biased (y : FVec F S128x1 .f32) : IVec S128x1 32 :=
  bit y (bit y (bit y (bit y (bit y (bit y (bit y (bit y (broadcast S128x1 0#32) 128#32) 64#32) 32#32) 16#32) 8#32) 4#32) 2#32) 1#32

/-- The exponent. -/
def expo (y : FVec F S128x1 .f32) : IVec S128x1 32 :=
  select (cmpi .eq (biased y) (broadcast S128x1 0#32)) (broadcast S128x1 0#32) (subi (biased y) (broadcast S128x1 126#32))

/-- The power of two of an exponent, by its bits. -/
def pow2 (e : IVec S128x1 32) : FVec F S128x1 .f32 := bitcastToFloat .f32 (shli (addi e (broadcast S128x1 127#32)) (broadcast S128x1 23#32))

/-- A group's codes. -/
def codes (r : FVec F S128x1 .f32) (x : Vec F S128x128 .bf16) (w : Vec F S1x128 .bf16) : FVec F S128x128 .fp8e4m3 :=
  truncf .fp8e4m3 (minimumf (broadcast S128x128 (Scalar.ofBits .f32 0x43E00000#32)) (maximumf (broadcast S128x128 (Scalar.ofBits .f32 0xC3E00000#32))
    (mulf (hidden r x w) (broadcastTo S128x128 (pow2 (subi (broadcast S128x1 0#32) (expo (peak r x w)))) broadcasts_S128x1_S128x128)))) bitsLt_fp8e4m3_f32

/-- A group's scales. -/
def scales (r : FVec F S128x1 .f32) (x : Vec F S128x128 .bf16) (w : Vec F S1x128 .bf16) : FVec F S128x1 .f32 := pow2 (expo (peak r x w))

/-- A group's codes times their scales. -/
def scaled (r : FVec F S128x1 .f32) (x : Vec F S128x128 .bf16) (w : Vec F S1x128 .bf16) : FVec F S128x128 .bf16 :=
  mulf (extf .bf16 (codes r x w) bitsLt_fp8e4m3_bf16)
    (truncf .bf16 (broadcastTo S128x128 (shapeCast S128x1 (scales r x w) shapeCasts_S128x1_S128x1) broadcasts_S128x1_S128x128) bitsLt_bf16_f32)

theorem inbX (g : Fin 40) : ∀ a, (![0, 128 * g.val] : Fin 2 → ℕ) a + S128x128.size a ≤ S128x5120.size a :=
  (by decide : ∀ g : Fin 40, ∀ a, (![0, 128 * g.val] : Fin 2 → ℕ) a + S128x128.size a ≤ S128x5120.size a) g
theorem inbW (g : Fin 40) : ∀ a, (![0, 128 * g.val] : Fin 2 → ℕ) a + S1x128.size a ≤ S1x5120.size a :=
  (by decide : ∀ g : Fin 40, ∀ a, (![0, 128 * g.val] : Fin 2 → ℕ) a + S1x128.size a ≤ S1x5120.size a) g
theorem inbS (g : Fin 40) : ∀ a, (![0, g.val] : Fin 2 → ℕ) a + S128x1.size a ≤ S128x40.size a :=
  (by decide : ∀ g : Fin 40, ∀ a, (![0, g.val] : Fin 2 → ℕ) a + S128x1.size a ≤ S128x40.size a) g

/-- The columns of group `g`, of the rows. -/
abbrev rX (g : Fin 40) : Rect S128x5120 := Rect.unit (s := S128x5120) ![0, 128 * g.val] S128x128.size (inbX g)
/-- The columns of group `g`, of the gains. -/
abbrev rW (g : Fin 40) : Rect S1x5120 := Rect.unit (s := S1x5120) ![0, 128 * g.val] S1x128.size (inbW g)
/-- The column of group `g`, of the scales. -/
abbrev rS (g : Fin 40) : Rect S128x40 := Rect.unit (s := S128x40) ![0, g.val] S128x1.size (inbS g)

variable (x0 : Vec F S128x5120 .bf16) (x1 : Vec F S1x5120 .bf16)

/-- The reciprocal root mean squares of a block's rows. -/
def rms : FVec F S128x1 .f32 := k0_pay2 (View.ld x0 r0_0)

theorem out2_eq : out0_2 x0 x1 = View.canon (List.ofFn fun g : Fin 40 =>
    (⟨rX g.rev, codes (rms x0) (View.ld x0 (rX g.rev)) (View.ld x1 (rW g.rev))⟩ : View.Piece (Elt F) S128x5120 .fp8e4m3)) := by
  rfl

theorem out3_eq : out0_3 x0 x1 = View.canon (List.ofFn fun g : Fin 40 =>
    (⟨rS g.rev, scales (rms x0) (View.ld x0 (rX g.rev)) (View.ld x1 (rW g.rev))⟩ : View.Piece (Elt F) S128x40 .f32)) := by
  rfl

theorem out4_eq : out0_4 x0 x1 = View.canon (List.ofFn fun g : Fin 40 =>
    (⟨rX g.rev, scaled (rms x0) (View.ld x0 (rX g.rev)) (View.ld x1 (rW g.rev))⟩ : View.Piece (Elt F) S128x5120 .bf16)) := by
  rfl

end Cert.QuantGroup

end
-- ==== Proof.Powers.lean ====
/-
  The exponent of a positive number, found two ways: by a binary search of the eight exponent bits against the powers of
  two, and by counting the powers of two that are not above the number. Both name the same power of two, and so do the
  f32 patterns built from the exponent by an integer shift and the exponential of the counted number.
-/
module

public import Idealize.ShloMosaic.Lib.IdealHost
public import Idealize.ShloMosaic.Lib.Pointwise
public import Idealize.ShloMosaic.Lib.Pipeline.ValueKit

@[expose] public section

noncomputable section

namespace Cert.Powers

open Idealize.ShloMosaic
open scoped BigOperators

/-- The extended real of the f32 pattern with exponent field `n` and no fraction. -/
def T (n : ℕ) : EReal := Ideal.ofBits .f32 (BitVec.ofNat 32 n <<< 23)

theorem T_eq {n : ℕ} (h0 : 0 < n) (h1 : n < 255) : T n = (((2 : ℝ) ^ ((n : ℤ) - 127) : ℝ) : EReal) := by
  have hf : (BitVec.ofNat 32 n <<< 23).extractLsb' (8 + 23) 1 = 0#1 ∧
      ((BitVec.ofNat 32 n <<< 23).extractLsb' 23 8).toNat = n ∧ ((BitVec.ofNat 32 n <<< 23).extractLsb' 0 23).toNat = 0 :=
    (by decide +kernel : ∀ n : Fin 255, (BitVec.ofNat 32 n.val <<< 23).extractLsb' (8 + 23) 1 = 0#1 ∧
      ((BitVec.ofNat 32 n.val <<< 23).extractLsb' 23 8).toNat = n.val ∧
      ((BitVec.ofNat 32 n.val <<< 23).extractLsb' 0 23).toNat = 0) ⟨n, h1⟩
  show Ideal.ieee 8 23 (BitVec.ofNat 32 n <<< 23) = _
  unfold Ideal.ieee
  rw [hf.1, hf.2.1, hf.2.2]
  have e : (2 : ℝ) ^ 23 * (2 : ℝ) ^ ((n : ℤ) - (2 ^ (8 - 1) - 1) - (23 : ℕ)) = (2 : ℝ) ^ ((n : ℤ) - 127) := by
    rw [← zpow_natCast, ← zpow_add₀ (by norm_num : (2 : ℝ) ≠ 0)]; congr 1; push_cast; ring
  simp only [show ¬ n = 2 ^ 8 - 1 by omega, show ¬ n = 0 by omega, if_false]
  rw [← e]; norm_num

theorem T_255 : T 255 = ⊤ := by
  show Ideal.ieee 8 23 (BitVec.ofNat 32 255 <<< 23) = _
  unfold Ideal.ieee
  rw [if_pos (by decide), if_pos (by decide), if_neg (by decide)]

theorem T_lt {a b : ℕ} (ha : 0 < a) (hab : a < b) (hb : b < 256) : T a < T b := by
  rw [T_eq ha (by omega)]
  by_cases h : b = 255
  · subst h; rw [T_255]; exact EReal.coe_lt_top _
  · rw [T_eq (by omega) (by omega), EReal.coe_lt_coe_iff]
    exact zpow_lt_zpow_right₀ (by norm_num) (by omega)

theorem T_le {a b : ℕ} (ha : 0 < a) (hab : a ≤ b) (hb : b < 256) : T a ≤ T b := by
  rcases Nat.eq_or_lt_of_le hab with rfl | h
  · exact le_rfl
  · exact (T_lt ha h hb).le

/-! ### The binary search -/

/-- One step: the bit `k` joins the word where the power it names is not above `y`. -/
def step (y : EReal) (b k : BitVec 32) : BitVec 32 :=
  if y < Ideal.ofBits .f32 ((b ||| k) <<< (23#32).toNat) then b else b ||| k

/-- The search through all eight bits. -/
def search (y : EReal) : BitVec 32 :=
  step y (step y (step y (step y (step y (step y (step y (step y 0#32 128#32) 64#32) 32#32) 16#32) 8#32) 4#32) 2#32) 1#32

/-- What the search knows before the bits below `w`: the word is the number `n`, its power is not above `y`, and the
    power `w` places further is. -/
def Inv (y : EReal) (w : ℕ) (b : BitVec 32) : Prop :=
  ∃ n : ℕ, b = BitVec.ofNat 32 n ∧ n + w ≤ 256 ∧ w ∣ n ∧ (n = 0 ∨ T n ≤ y) ∧ (n + w = 256 ∨ y < T (n + w))

theorem inv_step (y : EReal) (j : Fin 8) (b : BitVec 32) (h : Inv y (2 ^ (j.val + 1)) b) :
    Inv y (2 ^ j.val) (step y b (BitVec.ofNat 32 (2 ^ j.val))) := by
  obtain ⟨n, rfl, hn, hd, h1, h2⟩ := h
  have hw : 2 ^ (j.val + 1) = 2 ^ j.val + 2 ^ j.val := by rw [pow_succ]; ring
  have hp : 0 < 2 ^ j.val := Nat.two_pow_pos _
  have hor : BitVec.ofNat 32 n ||| BitVec.ofNat 32 (2 ^ j.val) = BitVec.ofNat 32 (n + 2 ^ j.val) :=
    (by decide +kernel : ∀ j : Fin 8, ∀ n : Fin 256, 2 ^ (j.val + 1) ∣ n.val →
      BitVec.ofNat 32 n.val ||| BitVec.ofNat 32 (2 ^ j.val) = BitVec.ofNat 32 (n.val + 2 ^ j.val)) j ⟨n, by omega⟩ hd
  have hd' : 2 ^ j.val ∣ n := dvd_trans ⟨2, by rw [pow_succ]⟩ hd
  unfold step
  rw [hor]
  show Inv y _ (if y < T (n + 2 ^ j.val) then _ else _)
  by_cases hy : y < T (n + 2 ^ j.val)
  · rw [if_pos hy]
    exact ⟨n, rfl, by omega, hd', h1, .inr hy⟩
  · rw [if_neg hy]
    refine ⟨n + 2 ^ j.val, rfl, by omega, Dvd.dvd.add hd' dvd_rfl, .inr (not_lt.mp hy), ?_⟩
    rw [hw, ← add_assoc] at h2
    exact h2

theorem search_spec (y : EReal) :
    ∃ n : ℕ, search y = BitVec.ofNat 32 n ∧ n < 256 ∧ (n = 0 ∨ T n ≤ y) ∧ (n = 255 ∨ y < T (n + 1)) := by
  have h0 : Inv y (2 ^ ((7 : Fin 8).val + 1)) 0#32 := ⟨0, rfl, by decide, dvd_zero _, .inl rfl, .inl rfl⟩
  obtain ⟨n, e, hn, -, h1, h2⟩ := inv_step y 0 _ (inv_step y 1 _ (inv_step y 2 _ (inv_step y 3 _ (inv_step y 4 _
    (inv_step y 5 _ (inv_step y 6 _ (inv_step y 7 _ h0)))))))
  refine ⟨n, e, by simp at hn; omega, h1, ?_⟩
  rcases h2 with h | h
  · left; simp at h; omega
  · right; simpa using h

/-! ### The count -/

/-- How many of the 254 normal powers of two are not above `y`. -/
def count (y : EReal) : EReal := ∑ i : Fin 254, if Ideal.exp2 (((((i.val : ℤ) - 126 : ℤ) : ℝ)) : EReal) ≤ y then (1 : EReal) else 0

theorem exp2_int (z : ℤ) : Ideal.exp2 (((z : ℝ)) : EReal) = (((2 : ℝ) ^ z : ℝ) : EReal) := by
  show (((2 : ℝ) ^ (z : ℝ) : ℝ) : EReal) = _
  rw [Real.rpow_intCast]

theorem count_eq {y : EReal} {n : ℕ} (hn : n < 255) (h1 : n = 0 ∨ T n ≤ y) (h2 : y < T (n + 1)) : count y = ((n : ℝ) : EReal) := by
  have hi (i : Fin 254) : Ideal.exp2 (((((i.val : ℤ) - 126 : ℤ) : ℝ)) : EReal) ≤ y ↔ i.val < n := by
    rw [exp2_int, show (i.val : ℤ) - 126 = ((i.val + 1 : ℕ) : ℤ) - 127 by push_cast; ring, ← T_eq (by omega) (by omega)]
    constructor
    · intro h
      by_contra hlt
      exact absurd (lt_of_le_of_lt h h2) (not_lt.mpr (T_le (by omega) (by omega) (by omega)))
    · intro h
      rcases h1 with h1 | h1
      · omega
      · exact (T_le (by omega) (by omega) (by omega)).trans h1
  unfold count
  simp only [hi]
  rw [← Finset.sum_filter, Finset.sum_const, EReal.nsmul_eq_mul, mul_one]
  have hc : (Finset.univ.filter fun i : Fin 254 => i.val < n).card = n := by
    rw [Fin.card_filter_val_lt]; omega
  rw [hc]; rfl

/-! ### The two exponents -/

/-- The exponent word the search gives: 0 for no power, else the biased exponent less 126. -/
def expWord (y : EReal) : BitVec 32 := if search y = 0#32 then 0#32 else search y - 126#32

/-- The exponent the count gives. -/
def expCount (y : EReal) : EReal := if count y = 0 then 0 else count y - ((126 : ℝ) : EReal)

/-- Below 2^126 the pattern shifted from the exponent word is the exponential of the counted exponent, and so for the
    exponents' negatives. -/
theorem exp_eq (y : EReal) (hy : y < (((2 : ℝ) ^ (126 : ℤ) : ℝ) : EReal)) :
    Ideal.ofBits .f32 ((expWord y + 127#32) <<< (23#32).toNat) = Ideal.exp2 (expCount y) ∧
    Ideal.ofBits .f32 ((0#32 - expWord y + 127#32) <<< (23#32).toNat) = Ideal.exp2 (0 - expCount y) := by
  obtain ⟨n, e, hn, h1, h2⟩ := search_spec y
  have hy' : y < T 253 := by rw [T_eq (by omega) (by omega)]; exact hy
  have hn' : n < 253 := by
    rcases h1 with h1 | h1
    · omega
    · by_contra hc
      exact absurd (lt_of_le_of_lt h1 hy') (not_lt.mpr (T_le (by omega) (by omega) (by omega)))
  have h2' : y < T (n + 1) := by
    rcases h2 with h2 | h2
    · omega
    · exact h2
  have hc := count_eq (by omega) h1 h2'
  unfold expCount expWord
  rw [e, hc]
  rcases Nat.eq_zero_or_pos n with rfl | hpos
  · rw [if_pos rfl, if_pos (by simp)]
    have hz : Ideal.exp2 0 = T 127 := by
      rw [T_eq (by omega) (by omega)]; have := exp2_int 0; simpa using this
    refine ⟨by rw [hz]; rfl, by rw [sub_zero, hz]; rfl⟩
  · have hw : BitVec.ofNat 32 n ≠ 0#32 := by
      intro h; have := congrArg BitVec.toNat h; simp at this; omega
    have hr : ((n : ℝ) : EReal) ≠ 0 := by
      have : (n : ℝ) ≠ 0 := by exact_mod_cast (by omega : n ≠ 0)
      exact_mod_cast this
    rw [if_neg hw, if_neg hr]
    have hb : (BitVec.ofNat 32 n - 126#32 + 127#32) = BitVec.ofNat 32 (n + 1) ∧
        (0#32 - (BitVec.ofNat 32 n - 126#32) + 127#32) = BitVec.ofNat 32 (253 - n) :=
      (by decide +kernel : ∀ n : Fin 253, (BitVec.ofNat 32 n.val - 126#32 + 127#32) = BitVec.ofNat 32 (n.val + 1) ∧
        (0#32 - (BitVec.ofNat 32 n.val - 126#32) + 127#32) = BitVec.ofNat 32 (253 - n.val)) ⟨n, hn'⟩
    rw [hb.1, hb.2]
    constructor
    · have := exp2_int ((n : ℤ) - 126)
      show T (n + 1) = _
      rw [T_eq (by omega) (by omega), ← EReal.coe_sub,
        show ((n : ℝ) - 126) = (((n : ℤ) - 126 : ℤ) : ℝ) by push_cast; ring, this]
      congr 2; push_cast; ring
    · have := exp2_int (126 - (n : ℤ))
      show T (253 - n) = _
      rw [T_eq (by omega) (by omega), ← EReal.coe_sub, ← EReal.coe_zero, ← EReal.coe_sub,
        show ((0 : ℝ) - ((n : ℝ) - 126)) = ((126 - (n : ℤ) : ℤ) : ℝ) by push_cast; ring, this]
      congr 2; rw [Nat.cast_sub (by omega)]; push_cast; ring

end Cert.Powers

end
-- ==== Proof.QuantSpec.lean ====
/-
  What the quantiser computes, on one row of numbers and the gains, entry by entry; and the bound that keeps the group's
  exponent away from the ends of its range.
-/
module

public import proofs.«01_k».proof.Proof.Powers

@[expose] public section

noncomputable section

namespace Cert.QuantSpec

open Idealize.ShloMosaic Cert.Powers
open scoped BigOperators

/-- The reciprocal root mean square of a row. -/
def rms (f : Fin 5120 → EReal) : EReal :=
  Ideal.rsqrt (Ideal.div (∑ l, f l * f l) (Ideal.ofBits .f32 0x45A00000#32) + Ideal.ofBits .f32 0x358637BD#32)

/-- The row normalised and multiplied by the gains. -/
def norm (f w : Fin 5120 → EReal) (l : Fin 5120) : EReal := f l * rms f * w l

/-- The number whose exponent scales group `g`. -/
def peak (f w : Fin 5120 → EReal) (g : Fin 40) : EReal :=
  Finset.fold max (Ideal.ofBits .f32 0xFF800000#32) (fun c : Fin 128 => max (norm f w ⟨g.val * 128 + c.val, by omega⟩) (-norm f w ⟨g.val * 128 + c.val, by omega⟩))
    Finset.univ * Ideal.ofBits .f32 0x3B124925#32

/-- A group's scale. -/
def scale (f w : Fin 5120 → EReal) (g : Fin 40) : EReal := Ideal.exp2 (expCount (peak f w g))

/-- A column's code. -/
def code (f w : Fin 5120 → EReal) (l : Fin 5120) : EReal :=
  min (Ideal.ofBits .f32 0x43E00000#32) (max (Ideal.ofBits .f32 0xC3E00000#32)
    (norm f w l * Ideal.exp2 (0 - expCount (peak f w ⟨l.val / 128, by omega⟩))))

/-- A column's code times its group's scale. -/
def hidden (f w : Fin 5120 → EReal) (l : Fin 5120) : EReal := code f w l * scale f w ⟨l.val / 128, by omega⟩

/-! ### The bound -/

theorem c5120 : Ideal.ofBits .f32 0x45A00000#32 = ((5120 : ℝ) : EReal) := by
  simp [Ideal.ofBits, Ideal.ieee, -EReal.coe_mul]; norm_num

theorem ceps : ∃ e : ℝ, 0 < e ∧ Ideal.ofBits .f32 0x358637BD#32 = ((e : ℝ) : EReal) := by
  refine ⟨(8388608 + 407485 : ℝ) * 2 ^ (-43 : ℤ), by positivity, ?_⟩
  simp [Ideal.ofBits, Ideal.ieee, -EReal.coe_mul]; norm_num

theorem cfp8 : ∃ e : ℝ, 0 < e ∧ e < 1 / 440 ∧ Ideal.ofBits .f32 0x3B124925#32 = ((e : ℝ) : EReal) := by
  refine ⟨(8388608 + 1198373 : ℝ) * 2 ^ (-32 : ℤ), by positivity, by norm_num, ?_⟩
  simp [Ideal.ofBits, Ideal.ieee, -EReal.coe_mul]; norm_num

theorem cmax : ∃ e : ℝ, 0 < e ∧ e < 2 ^ (128 : ℤ) ∧ Ideal.ofBits .f32 0x7F7F0000#32 = ((e : ℝ) : EReal) := by
  refine ⟨(8388608 + 8323072 : ℝ) * 2 ^ (104 : ℤ), by positivity, by norm_num, ?_⟩
  simp [Ideal.ofBits, Ideal.ieee, -EReal.coe_mul]; norm_num

theorem cbot : Ideal.ofBits .f32 0xFF800000#32 = ⊥ := by
  simp [Ideal.ofBits, Ideal.ieee]

/-- The magnitude of an extended real is at most `b`. -/
def Within (b : ℝ) (x : EReal) : Prop := ∃ r : ℝ, x = (r : EReal) ∧ |r| ≤ b

theorem sq_nonneg' (x : EReal) : 0 ≤ x * x := by
  rcases le_total 0 x with h | h
  · exact mul_nonneg h h
  · have := EReal.neg_le_neg_iff.mpr h
    rw [neg_zero] at this
    rw [← neg_mul_neg]
    exact mul_nonneg this this

theorem coe_sum {ι : Type} (s : Finset ι) (g : ι → ℝ) : ((∑ k ∈ s, g k : ℝ) : EReal) = ∑ k ∈ s, (g k : EReal) := by
  classical
  induction s using Finset.induction_on with
  | empty => rfl
  | insert a s ha ih => rw [Finset.sum_insert ha, Finset.sum_insert ha, EReal.coe_add, ih]

/-- An entry times its row's reciprocal root mean square is at most the root of the row's length. -/
theorem within_rms (f : Fin 5120 → EReal) (l : Fin 5120) : Within 72 (f l * rms f) := by
  obtain ⟨e, he, hE⟩ := ceps
  unfold rms
  rw [c5120, hE]
  by_cases hf : ∀ k, f k ≠ ⊤ ∧ f k ≠ ⊥
  · choose g hg using fun k => (⟨(f k).toReal, (EReal.coe_toReal (hf k).1 (hf k).2).symm⟩ : ∃ r : ℝ, f k = (r : EReal))
    have hs : ∑ k, f k * f k = ((∑ k, g k * g k : ℝ) : EReal) := by
      rw [coe_sum]
      exact Finset.sum_congr rfl fun k _ => by rw [hg k, EReal.coe_mul]
    have hS : 0 ≤ ∑ k, g k * g k := Finset.sum_nonneg fun k _ => mul_self_nonneg _
    have hl : g l * g l ≤ ∑ k, g k * g k := Finset.single_le_sum (f := fun k => g k * g k) (fun k _ => mul_self_nonneg _) (Finset.mem_univ l)
    rw [hs, Ideal.div, if_neg (EReal.coe_ne_zero.mpr (by norm_num)), ← EReal.coe_inv, ← EReal.coe_mul, ← EReal.coe_add, hg l]
    generalize ∑ k, g k * g k = S at hS hl ⊢
    have hd : 0 < S * 5120⁻¹ + e := by positivity
    have hr : Ideal.rsqrt ((S * 5120⁻¹ + e : ℝ) : EReal) = (((Real.sqrt (S * 5120⁻¹ + e))⁻¹ : ℝ) : EReal) := by
      show (if (S * 5120⁻¹ + e : ℝ) < 0 then ⊥ else if (S * 5120⁻¹ + e : ℝ) = 0 then ⊤ else (((Real.sqrt (S * 5120⁻¹ + e))⁻¹ : ℝ) : EReal)) = _
      rw [if_neg (by linarith), if_neg (by linarith)]
    rw [hr, ← EReal.coe_mul]
    refine ⟨_, rfl, ?_⟩
    rw [abs_mul, abs_inv, abs_of_nonneg (Real.sqrt_nonneg _), ← div_eq_mul_inv, div_le_iff₀ (Real.sqrt_pos.mpr hd)]
    have : |g l| ≤ Real.sqrt (72 ^ 2 * (S * 5120⁻¹ + e)) := by
      apply Real.le_sqrt_of_sq_le
      rw [sq_abs]; nlinarith
    rwa [Real.sqrt_mul (by positivity), Real.sqrt_sq (by norm_num)] at this
  · have hs : ∑ k, f k * f k = ⊤ := by
      have : ∃ k, f k = ⊤ ∨ f k = ⊥ := by
        by_contra hc; exact hf fun k => ⟨fun h => hc ⟨k, .inl h⟩, fun h => hc ⟨k, .inr h⟩⟩
      obtain ⟨k, hk⟩ := this
      have hk2 : f k * f k = ⊤ := by rcases hk with hk | hk <;> rw [hk] <;> rfl
      refine top_le_iff.mp (hk2 ▸ Finset.single_le_sum (f := fun k => f k * f k) (fun k _ => sq_nonneg' _) (Finset.mem_univ k))
    have ht : Ideal.rsqrt (Ideal.div ⊤ ((5120 : ℝ) : EReal) + (e : EReal)) = 0 := by
      rw [Ideal.div, if_neg (EReal.coe_ne_zero.mpr (by norm_num)), ← EReal.coe_inv, EReal.top_mul_coe_of_pos (by norm_num), EReal.top_add_coe]; rfl
    rw [hs, ht, mul_zero]
    exact ⟨0, rfl, by norm_num⟩

/-- With every gain in bfloat16's finite range, a group's largest magnitude divided by 448 is below 2^126. -/
theorem peak_lt (f w : Fin 5120 → EReal) (hw : ∀ l, max (w l) (-w l) ≤ Ideal.ofBits .f32 0x7F7F0000#32) (g : Fin 40) :
    peak f w g < (((2 : ℝ) ^ (126 : ℤ) : ℝ) : EReal) := by
  obtain ⟨c, hc0, hc1, hC⟩ := cfp8
  obtain ⟨b, hb0, hb1, hB⟩ := cmax
  have hn (l : Fin 5120) : max (norm f w l) (-norm f w l) ≤ ((72 * b : ℝ) : EReal) := by
    obtain ⟨r, hr, hr'⟩ := within_rms f l
    have hwl := hw l
    rw [hB, max_le_iff] at hwl
    have h1 : w l ≠ ⊤ := fun h => by rw [h] at hwl; exact absurd (top_le_iff.mp hwl.1) (EReal.coe_ne_top _)
    have h2 : w l ≠ ⊥ := fun h => by rw [h] at hwl; exact absurd (top_le_iff.mp hwl.2) (EReal.coe_ne_top _)
    obtain ⟨v, hv⟩ : ∃ v : ℝ, w l = (v : EReal) := ⟨(w l).toReal, (EReal.coe_toReal h1 h2).symm⟩
    rw [hv, ← EReal.coe_neg, EReal.coe_le_coe_iff, EReal.coe_le_coe_iff] at hwl
    have hv' : |v| ≤ b := abs_le'.mpr hwl
    have : |r * v| ≤ 72 * b := by rw [abs_mul]; exact mul_le_mul hr' hv' (abs_nonneg _) (by norm_num)
    unfold norm
    rw [hr, hv, ← EReal.coe_mul, ← EReal.coe_neg, max_le_iff, EReal.coe_le_coe_iff, EReal.coe_le_coe_iff]
    exact abs_le'.mp this
  unfold peak
  rw [hC, cbot]
  have hfold : Finset.fold max ⊥ (fun c : Fin 128 => max (norm f w ⟨g.val * 128 + c.val, by omega⟩) (-norm f w ⟨g.val * 128 + c.val, by omega⟩))
      Finset.univ ≤ ((72 * b : ℝ) : EReal) :=
    (Finset.fold_max_le _).mpr ⟨bot_le, fun c _ => hn _⟩
  refine lt_of_le_of_lt (mul_le_mul_of_nonneg_right hfold (by exact_mod_cast hc0.le)) ?_
  rw [← EReal.coe_mul, EReal.coe_lt_coe_iff]
  have h126 : (2 : ℝ) ^ (128 : ℤ) = 4 * 2 ^ (126 : ℤ) := by norm_num
  rw [h126] at hb1
  have hp : (0 : ℝ) < 2 ^ (126 : ℤ) := by positivity
  nlinarith [mul_lt_mul_of_pos_left hc1 hb0]

end Cert.QuantSpec

end
-- ==== Proof.QuantKernel.lean ====
/-
  The quantiser's kernel, entry by entry: what one grid point leaves in its three output blocks.
-/
module

public import proofs.«01_k».proof.Proof.QuantGroup
public import proofs.«01_k».proof.Proof.QuantSpec

@[expose] public section

set_option maxRecDepth 16384

noncomputable section

namespace Cert.QuantKernel

open Idealize.ShloMosaic Idealize.ShloMosaic.TcCoe Idealize.SL.Sem
open Cert.QuantIdeal Cert.QuantIdeal.Gen Cert.QuantGroup

/-! ### One group -/

section Group
variable (r : FVec Ideal S128x1 .f32) (x : FVec Ideal S128x128 .bf16) (w : FVec Ideal S1x128 .bf16)

theorem hidden_at (i c : Fin 128) : QuantGroup.hidden r x w (ix2 i c) = x (ix2 i c) * r (ix2 i 0) * w (ix2 0 c) := by
  pointwise [QuantGroup.hidden, k0_pay15]

theorem peak_at (i : Fin 128) (j : Fin 1) : QuantGroup.peak r x w (ix2 i j)
    = Finset.fold max (Ideal.ofBits .f32 0xFF800000#32) (fun c : Fin 128 => max (QuantGroup.hidden r x w (ix2 i c)) (-QuantGroup.hidden r x w (ix2 i c)))
      Finset.univ * Ideal.ofBits .f32 0x3B124925#32 := by
  pointwise [QuantGroup.peak]
  rfl

theorem bit_at (y : FVec Ideal S128x1 .f32) (b : IVec S128x1 32) (k : BitVec 32) (i : Fin 128) (j : Fin 1) :
    bit y b k (ix2 i j) = Powers.step (y (ix2 i j)) (b (ix2 i j)) k := by
  pointwise [bit]
  rfl

theorem biased_at (y : FVec Ideal S128x1 .f32) (i : Fin 128) (j : Fin 1) : biased y (ix2 i j) = Powers.search (y (ix2 i j)) := by
  unfold biased Powers.search
  simp only [bit_at]
  rfl

theorem expo_at (y : FVec Ideal S128x1 .f32) (i : Fin 128) (j : Fin 1) : expo y (ix2 i j) = Powers.expWord (y (ix2 i j)) := by
  have h : expo y (ix2 i j) = if biased y (ix2 i j) = 0#32 then 0#32 else biased y (ix2 i j) - 126#32 := by
    pointwise [expo]
    show (if BitVec.ofBool (decide (biased y (ix2 i j) = 0#32)) = 1#1 then 0#32 else biased y (ix2 i j) - 126#32) = _
    by_cases hb : biased y (ix2 i j) = 0#32
    · rw [if_pos hb, if_pos (by rw [decide_eq_true hb]; rfl)]
    · rw [if_neg hb, if_neg (by rw [decide_eq_false hb]; decide)]
  rw [h, biased_at]; rfl

theorem pow2_at (e : IVec S128x1 32) (i : Fin 128) (j : Fin 1) :
    pow2 (F := Ideal) e (ix2 i j) = Ideal.ofBits .f32 ((e (ix2 i j) + 127#32) <<< (23#32).toNat) := by
  pointwise [pow2]
  rfl

theorem scales_at (i : Fin 128) (j : Fin 1) : scales r x w (ix2 i j)
    = Ideal.ofBits .f32 ((Powers.expWord (QuantGroup.peak r x w (ix2 i j)) + 127#32) <<< (23#32).toNat) := by
  unfold scales
  rw [pow2_at, expo_at]

theorem codes_at (i c : Fin 128) : codes r x w (ix2 i c)
    = min (Ideal.ofBits .f32 0x43E00000#32) (max (Ideal.ofBits .f32 0xC3E00000#32) (QuantGroup.hidden r x w (ix2 i c)
      * Ideal.ofBits .f32 ((0#32 - Powers.expWord (QuantGroup.peak r x w (ix2 i 0)) + 127#32) <<< (23#32).toNat))) := by
  have h : pow2 (F := Ideal) (subi (broadcast S128x1 0#32) (expo (QuantGroup.peak r x w))) (ix2 i 0)
      = Ideal.ofBits .f32 ((0#32 - Powers.expWord (QuantGroup.peak r x w (ix2 i 0)) + 127#32) <<< (23#32).toNat) := by
    rw [pow2_at, ← expo_at]; rfl
  rw [← h]
  pointwise [codes]

theorem scaled_at (i c : Fin 128) : scaled r x w (ix2 i c) = codes r x w (ix2 i c) * scales r x w (ix2 i 0) := by
  pointwise [scaled]

end Group

/-! ### One block of rows -/

section Block
variable (x0 : FVec Ideal S128x5120 .bf16) (x1 : FVec Ideal S1x5120 .bf16)

/-- A row of a matrix. -/
abbrev row {n k : ℕ} {φ : FTy} (x : FVec Ideal ⟨2, ![n, k]⟩ φ) (i : Fin n) : Fin k → EReal := fun l => x (ix2 i l)

theorem rms_at (i : Fin 128) (j : Fin 1) : QuantGroup.rms (F := Ideal) x0 (ix2 i j) = QuantSpec.rms (row x0 i) := by
  have h : View.ld (Val := Elt Ideal) (e' := .bf16) x0 r0_0 = x0 := View.ld_unit_zero (by decide) _ _
  unfold QuantGroup.rms
  rw [h]
  pointwise [k0_pay2]
  rfl

theorem ldX_at (g : Fin 40) (i c : Fin 128) : View.ld (Val := Elt Ideal) (e' := .bf16) x0 (rX g) (ix2 i c) = x0 (ix2 i ⟨g.val * 128 + c.val, by omega⟩) :=
  View.ld_unit_apply_of (Val := Elt Ideal) (S := S128x5120) (e := .bf16) x0 ![0, 128 * g.val] S128x128.size (inbX g) (ix2 i c) (ix2 i ⟨g.val * 128 + c.val, by omega⟩) fun a => by
    match a with
    | 0 => exact (Nat.zero_add i.val).symm
    | 1 => show g.val * 128 + c.val = 128 * g.val + c.val; omega

theorem ldW_at (g : Fin 40) (i : Fin 1) (c : Fin 128) : View.ld (Val := Elt Ideal) (e' := .bf16) x1 (rW g) (ix2 i c) = x1 (ix2 i ⟨g.val * 128 + c.val, by omega⟩) :=
  View.ld_unit_apply_of (Val := Elt Ideal) (S := S1x5120) (e := .bf16) x1 ![0, 128 * g.val] S1x128.size (inbW g) (ix2 i c) (ix2 i ⟨g.val * 128 + c.val, by omega⟩) fun a => by
    match a with
    | 0 => exact (Nat.zero_add i.val).symm
    | 1 => show g.val * 128 + c.val = 128 * g.val + c.val; omega

/-- The group's normalised rows are the row's. -/
theorem norm_at (g : Fin 40) (i c : Fin 128) :
    QuantGroup.hidden (F := Ideal) (QuantGroup.rms (F := Ideal) x0) (View.ld (Val := Elt Ideal) (e' := .bf16) x0 (rX g)) (View.ld (Val := Elt Ideal) (e' := .bf16) x1 (rW g)) (ix2 i c)
      = QuantSpec.norm (row x0 i) (row x1 0) ⟨g.val * 128 + c.val, by omega⟩ := by
  rw [hidden_at, rms_at, ldX_at, ldW_at]; rfl

theorem peaks_at (g : Fin 40) (i : Fin 128) (j : Fin 1) :
    QuantGroup.peak (F := Ideal) (QuantGroup.rms (F := Ideal) x0) (View.ld (Val := Elt Ideal) (e' := .bf16) x0 (rX g)) (View.ld (Val := Elt Ideal) (e' := .bf16) x1 (rW g)) (ix2 i j) = QuantSpec.peak (row x0 i) (row x1 0) g := by
  rw [peak_at]
  unfold QuantSpec.peak
  simp only [norm_at]

variable (hw : ∀ l, max (row x1 0 l) (-row x1 0 l) ≤ Ideal.ofBits .f32 0x7F7F0000#32)
include hw

theorem scale_piece (g : Fin 40) (i : Fin 128) (j : Fin 1) :
    scales (F := Ideal) (QuantGroup.rms (F := Ideal) x0) (View.ld (Val := Elt Ideal) (e' := .bf16) x0 (rX g)) (View.ld (Val := Elt Ideal) (e' := .bf16) x1 (rW g)) (ix2 i j) = QuantSpec.scale (row x0 i) (row x1 0) g := by
  rw [scales_at, peaks_at, (Powers.exp_eq _ (QuantSpec.peak_lt _ _ hw g)).1]; rfl

theorem code_piece (g : Fin 40) (i c : Fin 128) :
    codes (F := Ideal) (QuantGroup.rms (F := Ideal) x0) (View.ld (Val := Elt Ideal) (e' := .bf16) x0 (rX g)) (View.ld (Val := Elt Ideal) (e' := .bf16) x1 (rW g)) (ix2 i c)
      = QuantSpec.code (row x0 i) (row x1 0) ⟨g.val * 128 + c.val, by omega⟩ := by
  rw [codes_at, peaks_at, norm_at, (Powers.exp_eq _ (QuantSpec.peak_lt _ _ hw g)).2]
  unfold QuantSpec.code
  simp only [show (g.val * 128 + c.val) / 128 = g.val by omega]

theorem hidden_piece (g : Fin 40) (i c : Fin 128) :
    scaled (F := Ideal) (QuantGroup.rms (F := Ideal) x0) (View.ld (Val := Elt Ideal) (e' := .bf16) x0 (rX g)) (View.ld (Val := Elt Ideal) (e' := .bf16) x1 (rW g)) (ix2 i c)
      = QuantSpec.hidden (row x0 i) (row x1 0) ⟨g.val * 128 + c.val, by omega⟩ := by
  rw [scaled_at, code_piece x0 x1 hw, scale_piece x0 x1 hw]
  unfold QuantSpec.hidden
  simp only [show (g.val * 128 + c.val) / 128 = g.val by omega]

end Block

/-! ### The pieces together -/

/-- Forty groups of columns, stored one after the other, are a block of 5120 columns. -/
theorem columns {e : EltTy} (P : Fin 40 → S128x128.Idx → Elt Ideal e) (G : S128x5120.Idx → Elt Ideal e)
    (hP : ∀ (g : Fin 40) (i c : Fin 128), P g (ix2 i c) = G (ix2 i ⟨g.val * 128 + c.val, by omega⟩)) :
    View.canon (List.ofFn fun g : Fin 40 => (⟨rX g.rev, P g.rev⟩ : View.Piece (Elt Ideal) S128x5120 e)) = G := by
  funext y
  refine View.canon_ofFn_unit_eq_of_forall (S := S128x5120) (fun g : Fin 40 => ![0, 128 * g.rev.val]) S128x128.size
    (fun g => inbX g.rev) (fun g => P g.rev) y (G y) ?_ fun g x hx => ?_
  · have h0 : (y 0 : ℕ) < 128 := (y 0).isLt
    have h1 : (y 1 : ℕ) < 5120 := (y 1).isLt
    refine ⟨(⟨(y 1 : ℕ) / 128, by omega⟩ : Fin 40).rev, fun a => ?_⟩
    rw [Fin.rev_rev]
    match a with
    | 0 => exact ⟨Nat.zero_le _, by show (y 0 : ℕ) < 0 + 128; omega⟩
    | 1 => exact ⟨by show 128 * ((y 1 : ℕ) / 128) ≤ (y 1 : ℕ); omega, by show (y 1 : ℕ) < 128 * ((y 1 : ℕ) / 128) + 128; omega⟩
  · have h0 : (y 0 : ℕ) = 0 + (x 0 : ℕ) := hx 0
    have h1 : (y 1 : ℕ) = 128 * g.rev.val + (x 1 : ℕ) := hx 1
    have hx' : x = ix2 (x 0) (x 1) := (ix2_eta x).symm
    have hy : y = ix2 (x 0) ⟨g.rev.val * 128 + (x 1 : ℕ), by have : (x 1 : ℕ) < 128 := (x 1).isLt; have := g.rev.isLt; omega⟩ := by
      refine funext fun a => Fin.ext ?_
      match a with
      | 0 => exact h0.trans (Nat.zero_add _)
      | 1 => show (y 1 : ℕ) = g.rev.val * 128 + (x 1 : ℕ); omega
    rw [hy, hx']
    exact hP g.rev (x 0) (x 1)

/-- Forty single columns, likewise. -/
theorem singles {e : EltTy} (P : Fin 40 → S128x1.Idx → Elt Ideal e) (G : S128x40.Idx → Elt Ideal e)
    (hP : ∀ (g : Fin 40) (i : Fin 128) (j : Fin 1), P g (ix2 i j) = G (ix2 i g)) :
    View.canon (List.ofFn fun g : Fin 40 => (⟨rS g.rev, P g.rev⟩ : View.Piece (Elt Ideal) S128x40 e)) = G := by
  funext y
  refine View.canon_ofFn_unit_eq_of_forall (S := S128x40) (fun g : Fin 40 => ![0, g.rev.val]) S128x1.size
    (fun g => inbS g.rev) (fun g => P g.rev) y (G y) ?_ fun g x hx => ?_
  · have h0 : (y 0 : ℕ) < 128 := (y 0).isLt
    have h1 : (y 1 : ℕ) < 40 := (y 1).isLt
    refine ⟨(⟨(y 1 : ℕ), h1⟩ : Fin 40).rev, fun a => ?_⟩
    rw [Fin.rev_rev]
    match a with
    | 0 => exact ⟨Nat.zero_le _, by show (y 0 : ℕ) < 0 + 128; omega⟩
    | 1 => exact ⟨le_refl (y 1 : ℕ), by show (y 1 : ℕ) < (y 1 : ℕ) + 1; omega⟩
  · have h0 : (y 0 : ℕ) = 0 + (x 0 : ℕ) := hx 0
    have h1 : (y 1 : ℕ) = g.rev.val + (x 1 : ℕ) := hx 1
    have h2 : (x 1 : ℕ) < 1 := (x 1).isLt
    have hx' : x = ix2 (x 0) (x 1) := (ix2_eta x).symm
    have hy : y = ix2 (x 0) g.rev := by
      refine funext fun a => Fin.ext ?_
      match a with
      | 0 => exact h0.trans (Nat.zero_add _)
      | 1 => show (y 1 : ℕ) = g.rev.val; omega
    rw [hy, hx']
    exact hP g.rev (x 0) (x 1)

section Out
variable (x0 : FVec Ideal S128x5120 .bf16) (x1 : FVec Ideal S1x5120 .bf16)
  (hw : ∀ l, max (row x1 0 l) (-row x1 0 l) ≤ Ideal.ofBits .f32 0x7F7F0000#32)
include hw

theorem out2_at : out0_2 (F := Ideal) x0 x1 = fun y => QuantSpec.code (row x0 (y 0)) (row x1 0) (y 1) := by
  rw [out2_eq]
  refine columns (e := .fp8e4m3) (fun g => codes (F := Ideal) (QuantGroup.rms x0) (View.ld (Val := Elt Ideal) (e' := .bf16) x0 (rX g)) (View.ld (Val := Elt Ideal) (e' := .bf16) x1 (rW g)))
    (fun y => QuantSpec.code (row x0 (y 0)) (row x1 0) (y 1)) ?_
  intro g i c
  exact code_piece x0 x1 hw g i c

theorem out3_at : out0_3 (F := Ideal) x0 x1 = fun y => QuantSpec.scale (row x0 (y 0)) (row x1 0) (y 1) := by
  rw [out3_eq]
  refine singles (e := .f32) (fun g => scales (F := Ideal) (QuantGroup.rms x0) (View.ld (Val := Elt Ideal) (e' := .bf16) x0 (rX g)) (View.ld (Val := Elt Ideal) (e' := .bf16) x1 (rW g)))
    (fun y => QuantSpec.scale (row x0 (y 0)) (row x1 0) (y 1)) ?_
  intro g i j
  exact scale_piece x0 x1 hw g i j

theorem out4_at : out0_4 (F := Ideal) x0 x1 = fun y => QuantSpec.hidden (row x0 (y 0)) (row x1 0) (y 1) := by
  rw [out4_eq]
  refine columns (e := .bf16) (fun g => scaled (F := Ideal) (QuantGroup.rms x0) (View.ld (Val := Elt Ideal) (e' := .bf16) x0 (rX g)) (View.ld (Val := Elt Ideal) (e' := .bf16) x1 (rW g)))
    (fun y => QuantSpec.hidden (row x0 (y 0)) (row x1 0) (y 1)) ?_
  intro g i c
  exact hidden_piece x0 x1 hw g i c

end Out

end Cert.QuantKernel

end
-- ==== Proof.QuantRef.lean ====
/-
  The quantiser's reference, entry by entry.
-/
module

public import proofs.«01_k».proof.Proof.QuantSpec
public import proofs.«01_k».proof.Proof.Gen.QuantRefIdeal.Frame

@[expose] public section

set_option maxRecDepth 16384

noncomputable section

namespace Cert.QuantRef

open Idealize.ShloMosaic Idealize.ShloMosaic.TcCoe Idealize.SL.Sem
open Cert.QuantRefIdeal Cert.QuantRefIdeal.Gen

/-- The largest magnitude of every group, divided by 448. -/
def peaks (h : FVec Ideal S6144x40x128 .f32) : FVec Ideal S6144x40 .f32 :=
  mulf (multiReduction .maximumf [2] S6144x40 (absf h) 0xFF800000#32 reduces_S6144x40x128_S6144x40 (.inl rfl) rfl)
    (broadcast S6144x40 (Scalar.ofBits .f32 0x3B124925#32))

/-- The powers of two the reference counts. -/
def powers : FVec Ideal S1x1x254 .f32 :=
  exp2 (sitofp .f32 (subi (iota .tc S1x1x254 32 [2] iota_S1x1x254_d2_w32) (broadcast S1x1x254 126#32)))

/-- One where the power is not above the number, zero where it is. -/
def marks (y : FVec Ideal S6144x40 .f32) (p : FVec Ideal S1x1x254 .f32) : FVec Ideal S6144x40x254 .f32 :=
  select (cmpf .oge (broadcastTo S6144x40x254 (shapeCast S6144x40x1 y shapeCasts_S6144x40_S6144x40x1) broadcasts_S6144x40x1_S6144x40x254)
      (broadcastTo S6144x40x254 p broadcasts_S1x1x254_S6144x40x254))
    (broadcast S6144x40x254 (Scalar.ofBits .f32 0x3F800000#32)) (broadcast S6144x40x254 (Scalar.ofBits .f32 0x00000000#32))

/-- How many powers are not above the number. -/
def counts (k : FVec Ideal S6144x40x254 .f32) : FVec Ideal S6144x40 .f32 :=
  multiReduction .add [2] S6144x40 k 0x00000000#32 reduces_S6144x40x254_S6144x40 (.inl rfl) rfl

/-- The exponent from the count. -/
def expos (n : FVec Ideal S6144x40 .f32) : FVec Ideal S6144x40 .f32 :=
  select (cmpf .oeq n (broadcast S6144x40 (Scalar.ofBits .f32 0x00000000#32))) (broadcast S6144x40 (Scalar.ofBits .f32 0x00000000#32))
    (subf n (broadcast S6144x40 (Scalar.ofBits .f32 0x42FC0000#32)))

theorem pay5_eq (x : Vec Ideal S6144x5120 .bf16) (w : Vec Ideal S1x5120 .bf16) :
    k0_pay5 x w = expos (counts (marks (peaks (k0_pay4 x w)) powers)) := rfl

/-- The largest magnitude along the last of three axes times a constant, entry by entry. -/
theorem peak_apply {n0 n1 n2 : ℕ} (h : (⟨3, ![n0, n1, n2]⟩ : Shape).Reduces [2] ⟨2, ![n0, n1]⟩) (hφ : FKind.Formats .f32)
    (hacc : (0xFF800000#32 : BitVec (FTy.bits .f32)) = FKind.maximumf.neutral .f32 hφ) (v : FVec Ideal ⟨3, ![n0, n1, n2]⟩ .f32) (c : BitVec 32)
    (i : Fin n0) (j : Fin n1) :
    mulf (multiReduction .maximumf [2] ⟨2, ![n0, n1]⟩ (absf v) 0xFF800000#32 h hφ hacc) (broadcast ⟨2, ![n0, n1]⟩ (Scalar.ofBits .f32 c)) (ix2 i j)
      = Finset.fold max (Ideal.ofBits .f32 0xFF800000#32) (fun k : Fin n2 => max (v (ix3 i j k)) (-v (ix3 i j k))) Finset.univ * Ideal.ofBits .f32 c := by
  have e := multiReduction_maximumf_eq_fold (F := Ideal) (absf v) 0xFF800000#32 h hφ hacc (ix2 i j)
  rw [Shape.Reduces.fold_fiber_r3_a2] at e
  exact congrArg (· * Ideal.ofBits .f32 c) e

/-- A row of a matrix. -/
abbrev row {n k : ℕ} {φ : FTy} (x : FVec Ideal ⟨2, ![n, k]⟩ φ) (i : Fin n) : Fin k → EReal := fun l => x (ix2 i l)

variable (x : FVec Ideal S6144x5120 .bf16) (w : FVec Ideal S1x5120 .bf16)

theorem norm_at (i : Fin 6144) (g : Fin 40) (c : Fin 128) :
    k0_pay4 (F := Ideal) x w (ix3 i g c) = QuantSpec.norm (row x i) (row w 0) ⟨g.val * 128 + c.val, by omega⟩ := by
  pointwise [k0_pay4]
  rfl

theorem peaks_at (i : Fin 6144) (g : Fin 40) : peaks (k0_pay4 (F := Ideal) x w) (ix2 i g) = QuantSpec.peak (row x i) (row w 0) g := by
  refine (peak_apply reduces_S6144x40x128_S6144x40 (.inl rfl) rfl (k0_pay4 (F := Ideal) x w) 0x3B124925#32 i g).trans ?_
  unfold QuantSpec.peak
  refine congrArg (· * _) (congrArg (fun f => Finset.fold max _ f Finset.univ) (funext fun c => ?_))
  rw [norm_at]

theorem powers_at (n : Fin 254) : powers (ix3 0 0 n) = Ideal.exp2 (((((n.val : ℤ) - 126 : ℤ) : ℝ)) : EReal) := by
  pointwise [powers]
  show Ideal.exp2 ((((BitVec.ofNat 32 n.val - 126#32).toInt : ℝ)) : EReal) = _
  rw [(by decide +kernel : ∀ n : Fin 254, (BitVec.ofNat 32 n.val - 126#32).toInt = (n.val : ℤ) - 126) n]

theorem counts_at (y : FVec Ideal S6144x40 .f32) (i : Fin 6144) (g : Fin 40) :
    counts (marks y powers) (ix2 i g) = Powers.count (y (ix2 i g)) := by
  pointwise [counts]
  refine Finset.sum_congr rfl fun n _ => ?_
  pointwise [marks]
  rw [powers_at]

theorem c126 : Ideal.ofBits .f32 0x42FC0000#32 = ((126 : ℝ) : EReal) := by
  simp [Ideal.ofBits, Ideal.ieee, -EReal.coe_mul]; norm_num

theorem expo_at (i : Fin 6144) (g : Fin 40) : k0_pay5 (F := Ideal) x w (ix2 i g) = Powers.expCount (QuantSpec.peak (row x i) (row w 0) g) := by
  rw [pay5_eq]
  pointwise [expos]
  rw [counts_at, peaks_at, c126]
  rfl

theorem code_at (i : Fin 6144) (l : Fin 5120) :
    k0_pay1 (k0_pay4 x w) (k0_pay5 x w) (k0_pay6 (F := Ideal)) (ix2 i l) = QuantSpec.code (row x i) (row w 0) l := by
  pointwise [k0_pay1, k0_pay6]
  rw [norm_at, expo_at]
  unfold QuantSpec.code
  simp only [Nat.div_add_mod']
  rfl

theorem scale_at (i : Fin 6144) (g : Fin 40) : k0_pay2 (F := Ideal) (k0_pay5 x w) (ix2 i g) = QuantSpec.scale (row x i) (row w 0) g := by
  pointwise [k0_pay2]
  rw [expo_at]; rfl

theorem hidden_at (i : Fin 6144) (l : Fin 5120) :
    k0_pay3 (k0_pay4 x w) (k0_pay5 x w) (k0_pay6 (F := Ideal)) (ix2 i l) = QuantSpec.hidden (row x i) (row w 0) l := by
  unfold QuantSpec.hidden
  rw [← code_at, ← scale_at]
  pointwise [k0_pay1, k0_pay2, k0_pay3, k0_pay6]

end Cert.QuantRef
end
-- ==== Proof.QuantFinal.lean ====
/-
  The quantiser's result arrays, on both sides, as one function of the arguments.
-/
module

public import proofs.«01_k».proof.Proof.QuantKernel
public import proofs.«01_k».proof.Proof.QuantRef
public import proofs.«01_k».proof.Proof.Gen.QuantIdeal.Value
public import proofs.«01_k».proof.Proof.Gen.QuantRefIdeal.Value
public import Idealize.ShloMosaic.Lib.Claim

@[expose] public section

set_option maxRecDepth 16384

noncomputable section

open Idealize.ShloMosaic Idealize.ShloMosaic.TcCoe Idealize.SL.Sem

namespace Cert.QuantFinal

/-- The results' entries, from the rows of activations and the row of gains. -/
def code (X : FVec Ideal ⟨2, ![6144, 5120]⟩ .bf16) (W : FVec Ideal ⟨2, ![1, 5120]⟩ .bf16) : FVec Ideal ⟨2, ![6144, 5120]⟩ .fp8e4m3 :=
  fun y => QuantSpec.code (QuantKernel.row X (y 0)) (QuantKernel.row W 0) (y 1)
def scale (X : FVec Ideal ⟨2, ![6144, 5120]⟩ .bf16) (W : FVec Ideal ⟨2, ![1, 5120]⟩ .bf16) : FVec Ideal ⟨2, ![6144, 40]⟩ .f32 :=
  fun y => QuantSpec.scale (QuantKernel.row X (y 0)) (QuantKernel.row W 0) (y 1)
def hidden (X : FVec Ideal ⟨2, ![6144, 5120]⟩ .bf16) (W : FVec Ideal ⟨2, ![1, 5120]⟩ .bf16) : FVec Ideal ⟨2, ![6144, 5120]⟩ .bf16 :=
  fun y => QuantSpec.hidden (QuantKernel.row X (y 0)) (QuantKernel.row W 0) (y 1)

end Cert.QuantFinal

namespace Cert.QuantIdeal.Final

open Cert.QuantIdeal Cert.QuantIdeal.Gen

variable (m : (ℓ : Loc nD τ sig) → Buf (Elt Ideal) ℓ)

/-- The rows and the gains as the kernel reads them: the arguments, reshaped. -/
abbrev X (c : Dev nD) : FVec Ideal S6144x5120 .bf16 := shapeCast S6144x5120 (m ((c : Thread nD τ).loc main_arg0)) Gen.facts.shapeCasts_S3x2048x5120_S6144x5120
abbrev W (c : Dev nD) : FVec Ideal S1x5120 .bf16 := shapeCast S1x5120 (m ((c : Thread nD τ).loc main_arg1)) Gen.facts.shapeCasts_S5120_S1x5120

theorem entry0 (c : Dev nD) : V m c main_v0 = X m c := by entry_read; rfl
theorem entry1 (c : Dev nD) : V m c main_v1 = W m c := by entry_read; rfl

theorem idx : ∀ t : Fin cfg0.N, win0_0.index t = ![t.val, 0] ∧ win0_1.index t = ![0, 0] ∧ win0_2.index t = ![t.val, 0] ∧ win0_3.index t = ![t.val, 0] ∧ win0_4.index t = ![t.val, 0] :=
  (by decide +kernel : ∀ t : Fin grid0.N, _)

/-- The gains' block is the whole array at every point. -/
theorem gains (c : Dev nD) (t : Fin cfg0.N) : iblk m c 1 t = W m c := by
  rw [← entry1]
  blk_ext! [iblk, idx t]

theorem rows (c : Dev nD) (t : Fin cfg0.N) (i : Fin 128) (l : Fin 5120) :
    (iblk m c 0 t : FVec Ideal S128x5120 .bf16) (ix2 i l) = X m c (ix2 ⟨128 * t.val + i.val, by have : t.val < 48 := t.isLt; omega⟩ l) := by
  rw [← entry0]
  blk_ext! [iblk, idx t]

/-- A row of the block at point `t` is a row of the array. -/
theorem row_block (c : Dev nD) (t : Fin cfg0.N) (i : Fin 128) (k : Fin 6144) (hk : k.val = t.val * 128 + i.val) :
    QuantKernel.row (n := 128) (k := 5120) (φ := .bf16) (iblk m c 0 t) i = QuantKernel.row (X m c) k := by
  funext l
  have hi : (⟨128 * t.val + i.val, by have : t.val < 48 := t.isLt; omega⟩ : Fin 6144) = k := Fin.ext (by show 128 * t.val + i.val = k.val; omega)
  rw [← hi]
  exact rows m c t i l

/-- Where an index of an output block lies in its array. -/
theorem place2 (t : Fin cfg0.N) (y : S128x5120.Idx) : ((win0_2.blk t).view.emb y 0 : ℕ) = t.val * 128 + (y 0 : ℕ) ∧ ((win0_2.blk t).view.emb y 1 : ℕ) = (y 1 : ℕ) := by
  constructor <;> blk_simp [idx t]

theorem place3 (t : Fin cfg0.N) (y : S128x40.Idx) : ((win0_3.blk t).view.emb y 0 : ℕ) = t.val * 128 + (y 0 : ℕ) ∧ ((win0_3.blk t).view.emb y 1 : ℕ) = (y 1 : ℕ) := by
  constructor <;> blk_simp [idx t]

theorem place4 (t : Fin cfg0.N) (y : S128x5120.Idx) : ((win0_4.blk t).view.emb y 0 : ℕ) = t.val * 128 + (y 0 : ℕ) ∧ ((win0_4.blk t).view.emb y 1 : ℕ) = (y 1 : ℕ) := by
  constructor <;> blk_simp [idx t]

section
variable (c : Dev nD) (hw : ∀ l, max (QuantKernel.row (W m c) 0 l) (-QuantKernel.row (W m c) 0 l) ≤ Ideal.ofBits .f32 0x7F7F0000#32)
include hw

theorem code_final : (dats m 0 c).arrAt 2 cfg0.N = QuantFinal.code (X m c) (W m c) := by
  refine (dats m 0 c).arrAt_eq_of_covers 2 _ (by decide +kernel) fun t hf y => ?_
  blk_simp
  rw [after0_2, gains, QuantKernel.out2_at _ _ hw]
  unfold QuantFinal.code
  have h0 := (place2 t y).1
  have h1 : (win0_2.blk t).view.emb y 1 = y 1 := Fin.ext (place2 t y).2
  rw [h1]
  exact congrArg (fun f => QuantSpec.code f _ _) (row_block m c t (y 0) _ h0)

theorem scale_final : (dats m 0 c).arrAt 3 cfg0.N = QuantFinal.scale (X m c) (W m c) := by
  refine (dats m 0 c).arrAt_eq_of_covers 3 _ (by decide +kernel) fun t hf y => ?_
  blk_simp
  rw [after0_3, gains, QuantKernel.out3_at _ _ hw]
  unfold QuantFinal.scale
  have h0 := (place3 t y).1
  have h1 : (win0_3.blk t).view.emb y 1 = y 1 := Fin.ext (place3 t y).2
  rw [h1]
  exact congrArg (fun f => QuantSpec.scale f _ _) (row_block m c t (y 0) _ h0)

theorem hidden_final : (dats m 0 c).arrAt 4 cfg0.N = QuantFinal.hidden (X m c) (W m c) := by
  refine (dats m 0 c).arrAt_eq_of_covers 4 _ (by decide +kernel) fun t hf y => ?_
  blk_simp
  rw [after0_4, gains, QuantKernel.out4_at _ _ hw]
  unfold QuantFinal.hidden
  have h0 := (place4 t y).1
  have h1 : (win0_4.blk t).view.emb y 1 = y 1 := Fin.ext (place4 t y).2
  rw [h1]
  exact congrArg (fun f => QuantSpec.hidden f _ _) (row_block m c t (y 0) _ h0)

end

end Cert.QuantIdeal.Final

namespace Cert.QuantRefIdeal.Final

open Cert.QuantRefIdeal Cert.QuantRefIdeal.Gen

variable (m : (ℓ : Loc nD τ sig) → Buf (Elt Ideal) ℓ)

abbrev X (c : Dev nD) : FVec Ideal S6144x5120 .bf16 := shapeCast S6144x5120 (m ((c : Thread nD τ).loc main_arg0)) Gen.facts.shapeCasts_S3x2048x5120_S6144x5120
abbrev W (c : Dev nD) : FVec Ideal S1x5120 .bf16 := shapeCast S1x5120 (m ((c : Thread nD τ).loc main_arg1)) Gen.facts.shapeCasts_S5120_S1x5120

theorem entry0 (c : Dev nD) : V m c main_v0 = X m c := by entry_read; rfl
theorem entry1 (c : Dev nD) : V m c main_v1 = W m c := by entry_read; rfl

theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

theorem blk0 (c : Dev nD) : iblk m c 0 t0_0 = X m c := by
  rw [← entry0]
  blk_ext! [iblk, idx t0_0]

theorem blk1 (c : Dev nD) : iblk m c 1 t0_0 = W m c := by
  rw [← entry1]
  blk_ext! [iblk, idx t0_0]

theorem ld0 (x0 : Vec Ideal S6144x5120 .bf16) : View.ld x0 r0_0 = x0 := View.ld_unit_zero (funext fun a => by match a with | 0 => rfl | 1 => rfl) _ _
theorem ld1 (x1 : Vec Ideal S1x5120 .bf16) : View.ld x1 r0_1 = x1 := View.ld_unit_zero (funext fun a => by match a with | 0 => rfl | 1 => rfl) _ _

theorem pay7_eq (x0 : Vec Ideal S6144x5120 .bf16) (x1 : Vec Ideal S1x5120 .bf16) : k0_pay7 x0 x1 = k0_pay4 x0 x1 := by
  unfold k0_pay7; rw [ld0, ld1]
theorem pay8_eq (x0 : Vec Ideal S6144x5120 .bf16) (x1 : Vec Ideal S1x5120 .bf16) : k0_pay8 x0 x1 = k0_pay5 x0 x1 := by
  unfold k0_pay8; rw [ld0, ld1]
theorem pay9_eq (x0 : Vec Ideal S6144x5120 .bf16) (x1 : Vec Ideal S1x5120 .bf16) : k0_pay9 x0 x1 = k0_pay6 := by
  unfold k0_pay9; rfl

theorem code_final (c : Dev nD) : (dats m 0 c).arrAt 2 cfg0.N = QuantFinal.code (X m c) (W m c) := by
  refine (dats m 0 c).arrAt_eq_of_after_last 2 t0_0 (by decide +kernel) _ fun j => ?_
  blk_simp
  rw [after0_2, blk0, blk1]
  frame_out
  rw [pay7_eq, pay8_eq, pay9_eq, show j = ix2 (j 0) (j 1) from (ix2_eta j).symm]
  exact QuantRef.code_at (X m c) (W m c) (j 0) (j 1)

theorem scale_final (c : Dev nD) : (dats m 0 c).arrAt 3 cfg0.N = QuantFinal.scale (X m c) (W m c) := by
  refine (dats m 0 c).arrAt_eq_of_after_last 3 t0_0 (by decide +kernel) _ fun j => ?_
  blk_simp
  rw [after0_3, blk0, blk1]
  frame_out
  rw [pay8_eq, show j = ix2 (j 0) (j 1) from (ix2_eta j).symm]
  exact QuantRef.scale_at (X m c) (W m c) (j 0) (j 1)

theorem hidden_final (c : Dev nD) : (dats m 0 c).arrAt 4 cfg0.N = QuantFinal.hidden (X m c) (W m c) := by
  refine (dats m 0 c).arrAt_eq_of_after_last 4 t0_0 (by decide +kernel) _ fun j => ?_
  blk_simp
  rw [after0_4, blk0, blk1]
  frame_out
  rw [pay7_eq, pay8_eq, pay9_eq, show j = ix2 (j 0) (j 1) from (ix2_eta j).symm]
  exact QuantRef.hidden_at (X m c) (W m c) (j 0) (j 1)

end Cert.QuantRefIdeal.Final

end
-- ==== Proof.QuantClaim.lean ====
/-
  The quantiser's algebraic claim.
-/
module

public import proofs.«01_k».proof.Defs
public import proofs.«01_k».proof.Proof.QuantFinal
public import proofs.«01_k».proof.Proof.Gen.Pre_gains_finite

@[expose] public section

set_option maxRecDepth 16384

noncomputable section

open Idealize.ShloMosaic Idealize.ShloMosaic.TcCoe Idealize.SL.Sem

namespace Cert.Proof

/-- The precondition, read at one gain. -/
theorem gain_le (x : FVec Ideal ⟨3, ![3, 2048, 5120]⟩ .bf16) (w : FVec Ideal ⟨1, ![5120]⟩ .bf16)
    (h : Cert.Pre_gains_finite.fn (F := Ideal) x w = fun _ => 1#1) (l : Fin 5120) :
    max (w (ix1 l)) (-w (ix1 l)) ≤ Ideal.ofBits .f32 0x7F7F0000#32 := by
  have h1 := congrFun h (ix1 l)
  have h2 : Cert.Pre_gains_finite.fn (F := Ideal) x w (ix1 l)
      = BitVec.ofBool (decide (max (w (ix1 l)) (-w (ix1 l)) ≤ Ideal.ofBits .f32 0x7F7F0000#32)) := rfl
  rw [h2] at h1
  by_contra hc
  rw [decide_eq_false hc] at h1
  exact absurd h1 (by decide)

/-- The gains as one row. -/
theorem one_row (w : FVec Ideal ⟨1, ![5120]⟩ .bf16) (h) (l : Fin 5120) : shapeCast ⟨2, ![1, 5120]⟩ w h (ix2 0 l) = w (ix1 l) := by
  pointwise

theorem gains_of_pre (m : (ℓ : Loc Cert.QuantIdeal.nD Cert.QuantIdeal.τ Cert.QuantIdeal.sig) → Buf (Elt Ideal) ℓ)
    (h : Cert.Pre_QuantIdeal_gains_finite m) (c : Dev Cert.QuantIdeal.nD) (l : Fin 5120) :
    max (QuantKernel.row (Cert.QuantIdeal.Final.W m c) 0 l) (-QuantKernel.row (Cert.QuantIdeal.Final.W m c) 0 l) ≤ Ideal.ofBits .f32 0x7F7F0000#32 := by
  have e : QuantKernel.row (Cert.QuantIdeal.Final.W m c) 0 l
      = (m ((c.tc : Thread Cert.QuantIdeal.nD Cert.QuantIdeal.τ).loc Cert.QuantIdeal.main_arg1) : FVec Ideal ⟨1, ![5120]⟩ .bf16) (ix1 l) := one_row _ _ l
  rw [e]
  exact gain_le _ _ (h c) l

section
variable (m : (ℓ : Loc Cert.QuantIdeal.nD Cert.QuantIdeal.τ Cert.QuantIdeal.sig) → Buf (Elt Ideal) ℓ)
  (m' : (ℓ : Loc Cert.QuantRefIdeal.nD Cert.QuantRefIdeal.τ Cert.QuantRefIdeal.sig) → Buf (Elt Ideal) ℓ)
  (h : ∀ c : Dev Cert.QuantIdeal.nD,
    m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)
    ∧ m' ((c.tc : Thread Cert.QuantRefIdeal.nD Cert.QuantRefIdeal.τ).loc Cert.QuantRefIdeal.main_arg1) = m ((c.tc : Thread Cert.QuantIdeal.nD Cert.QuantIdeal.τ).loc Cert.QuantIdeal.main_arg1))
include h

theorem rows_agree (c : Dev Cert.QuantIdeal.nD) : Cert.QuantRefIdeal.Final.X m' c = Cert.QuantIdeal.Final.X m c :=
  congrArg (fun x : FVec Ideal ⟨3, ![3, 2048, 5120]⟩ .bf16 => shapeCast ⟨2, ![6144, 5120]⟩ x Cert.QuantIdeal.Gen.facts.shapeCasts_S3x2048x5120_S6144x5120) (h c).1

theorem gains_agree (c : Dev Cert.QuantIdeal.nD) : Cert.QuantRefIdeal.Final.W m' c = Cert.QuantIdeal.Final.W m c :=
  congrArg (fun x : FVec Ideal ⟨1, ![5120]⟩ .bf16 => shapeCast ⟨2, ![1, 5120]⟩ x Cert.QuantIdeal.Gen.facts.shapeCasts_S5120_S1x5120) (h c).2

end

theorem algebraic_quant : Cert.algebraic_QuantIdeal_QuantRefIdeal_pre_gains_finite := by
  pair_intro
  · run_from Cert.QuantIdeal.Value.run_blocks m g
  · run_from Cert.QuantRefIdeal.Value.run_blocks m' g'
    · rw [Cert.QuantIdeal.Final.code_final m c (gains_of_pre m hpre c), Cert.QuantRefIdeal.Final.code_final m' c]
      exact congrArg₂ QuantFinal.code (rows_agree m m' hagree c) (gains_agree m m' hagree c)
    · rw [Cert.QuantIdeal.Final.scale_final m c (gains_of_pre m hpre c), Cert.QuantRefIdeal.Final.scale_final m' c]
      exact congrArg₂ QuantFinal.scale (rows_agree m m' hagree c) (gains_agree m m' hagree c)
    · rw [Cert.QuantIdeal.Final.hidden_final m c (gains_of_pre m hpre c), Cert.QuantRefIdeal.Final.hidden_final m' c]
      exact congrArg₂ QuantFinal.hidden (rows_agree m m' hagree c) (gains_agree m m' hagree c)

end Cert.Proof

end
-- ==== Proof.lean ====
/-
  The certificate of the kernel's two calls.

  The quantiser's frames and the references' are the generated ones; the projection's are Proof/WordFrame.lean (at machine
  words) and Proof/ProjFrame.lean (over the reals). The algebraic claims are Proof/QuantClaim.lean and Proof/ProjClaim.lean.
-/
module

public import proofs.«01_k».proof.Defs
public import proofs.«01_k».proof.Proof.Gen.Quant.Frame
public import proofs.«01_k».proof.Proof.Gen.QuantIdeal.Frame
public import proofs.«01_k».proof.Proof.Gen.QuantRefIdeal.Frame
public import proofs.«01_k».proof.Proof.Gen.ProjRefIdeal.Frame
public import proofs.«01_k».proof.Proof.WordFrame
public import proofs.«01_k».proof.Proof.ProjFrame
public import proofs.«01_k».proof.Proof.ProjClaim
public import proofs.«01_k».proof.Proof.QuantClaim

@[expose] public section

noncomputable section

namespace Cert.Proof

open Idealize.ShloMosaic Idealize.SL.Sem

theorem claim : Cert.Claim :=
  ⟨Cert.Proj.Gen.facts, Cert.ProjIdeal.Gen.facts, Cert.ProjRefIdeal.Gen.facts,
    Cert.Quant.Gen.facts, Cert.QuantIdeal.Gen.facts, Cert.QuantRefIdeal.Gen.facts, Cert.Pre_gains_finite.Gen.facts,
    fun m g _ => Cert.Proj.Gen.frame m g, fun m g _ => Cert.ProjIdeal.Gen.frame m g, fun m g _ => Cert.ProjRefIdeal.Gen.frame m g,
    fun m g _ => Cert.Quant.Gen.frame m g, fun m g _ => Cert.QuantIdeal.Gen.frame m g, fun m g _ => Cert.QuantIdeal.Gen.frame m g,
    fun m g _ => Cert.QuantRefIdeal.Gen.frame m g, fun m g _ => Cert.QuantRefIdeal.Gen.frame m g,
    trivial, algebraic_proj, trivial, algebraic_quant⟩

end Cert.Proof

end
